-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Kernel_KernelIdeal : Prop :=
  IdealRules.named_const.Statement Cert.KernelIdeal.κ "mask" .f32 0xF149F2CA#32 ⊥

def holds_KernelIdeal_cast_weights [hKernelIdeal : Cert.KernelIdeal.Facts] [hPost_cast_weights : Cert.Post_cast_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_cast_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v0_0)) (r.2.mem ((c.tc : Thread Cert.KernelIdeal.nD Cert.KernelIdeal.τ).loc Cert.KernelIdeal.main_v0_1)) (r.2.mem ((c.tc : Thread Cert.KernelIdeal.nD Cert.KernelIdeal.τ).loc Cert.KernelIdeal.main_v0_2)) (r.2.mem ((c.tc : Thread Cert.KernelIdeal.nD Cert.KernelIdeal.τ).loc Cert.KernelIdeal.main_v0_3)) (r.2.mem ((c.tc : Thread Cert.KernelIdeal.nD Cert.KernelIdeal.τ).loc Cert.KernelIdeal.main_v0_4))).1 = (fun _ => 1#1)
      ∧ (Cert.Post_cast_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v0_0)) (r.2.mem ((c.tc : Thread Cert.KernelIdeal.nD Cert.KernelIdeal.τ).loc Cert.KernelIdeal.main_v0_1)) (r.2.mem ((c.tc : Thread Cert.KernelIdeal.nD Cert.KernelIdeal.τ).loc Cert.KernelIdeal.main_v0_2)) (r.2.mem ((c.tc : Thread Cert.KernelIdeal.nD Cert.KernelIdeal.τ).loc Cert.KernelIdeal.main_v0_3)) (r.2.mem ((c.tc : Thread Cert.KernelIdeal.nD Cert.KernelIdeal.τ).loc Cert.KernelIdeal.main_v0_4))).2.1 = (fun _ => 1#1)
      ∧ (Cert.Post_cast_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v0_0)) (r.2.mem ((c.tc : Thread Cert.KernelIdeal.nD Cert.KernelIdeal.τ).loc Cert.KernelIdeal.main_v0_1)) (r.2.mem ((c.tc : Thread Cert.KernelIdeal.nD Cert.KernelIdeal.τ).loc Cert.KernelIdeal.main_v0_2)) (r.2.mem ((c.tc : Thread Cert.KernelIdeal.nD Cert.KernelIdeal.τ).loc Cert.KernelIdeal.main_v0_3)) (r.2.mem ((c.tc : Thread Cert.KernelIdeal.nD Cert.KernelIdeal.τ).loc Cert.KernelIdeal.main_v0_4))).2.2.1 = (fun _ => 1#1)
      ∧ (Cert.Post_cast_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v0_0)) (r.2.mem ((c.tc : Thread Cert.KernelIdeal.nD Cert.KernelIdeal.τ).loc Cert.KernelIdeal.main_v0_1)) (r.2.mem ((c.tc : Thread Cert.KernelIdeal.nD Cert.KernelIdeal.τ).loc Cert.KernelIdeal.main_v0_2)) (r.2.mem ((c.tc : Thread Cert.KernelIdeal.nD Cert.KernelIdeal.τ).loc Cert.KernelIdeal.main_v0_3)) (r.2.mem ((c.tc : Thread Cert.KernelIdeal.nD Cert.KernelIdeal.τ).loc Cert.KernelIdeal.main_v0_4))).2.2.2 = (fun _ => 1#1))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)) →
    ∃ (v0 : (c : Dev Cert.TailIdeal.nD) → Buf (Elt Ideal) ((c.tc : Thread Cert.TailIdeal.nD Cert.TailIdeal.τ).loc Cert.TailIdeal.main_v8)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v8) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v56) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v28_0)) (v1 : (c : Dev Cert.InprojIdeal.nD) → Buf (Elt Ideal) ((c.tc : Thread Cert.InprojIdeal.nD Cert.InprojIdeal.τ).loc Cert.InprojIdeal.main_v28_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v28_0) = v0 c
          ∧ r.2.mem ((c.tc : Thread Cert.InprojIdeal.nD Cert.InprojIdeal.τ).loc Cert.InprojIdeal.main_v28_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v355) = v0 c
          ∧ r.2.mem ((c.tc : Thread Cert.InprojRefIdeal.nD Cert.InprojRefIdeal.τ).loc Cert.InprojRefIdeal.main_v357) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v1_0)) (v1 : (c : Dev Cert.ModIdeal.nD) → Buf (Elt Ideal) ((c.tc : Thread Cert.ModIdeal.nD Cert.ModIdeal.τ).loc Cert.ModIdeal.main_v1_1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1_0) = v0 c
          ∧ r.2.mem ((c.tc : Thread Cert.ModIdeal.nD Cert.ModIdeal.τ).loc Cert.ModIdeal.main_v1_1) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v4) = v0 c
          ∧ r.2.mem ((c.tc : Thread Cert.ModRefIdeal.nD Cert.ModRefIdeal.τ).loc Cert.ModRefIdeal.main_v5) = v1 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hKernel : Cert.Kernel.Facts) (hKernelIdeal : Cert.KernelIdeal.Facts) (hTail : Cert.Tail.Facts) (hTailIdeal : Cert.TailIdeal.Facts) (hTailRefIdeal : Cert.TailRefIdeal.Facts) (hInproj : Cert.Inproj.Facts) (hInprojIdeal : Cert.InprojIdeal.Facts) (hInprojRefIdeal : Cert.InprojRefIdeal.Facts) (hMod : Cert.Mod.Facts) (hModIdeal : Cert.ModIdeal.Facts) (hModRefIdeal : Cert.ModRefIdeal.Facts) (hPost_cast_weights : Cert.Post_cast_weights.Facts),
    quiescent_Kernel (hKernel := hKernel)
    ∧ quiescent_KernelIdeal (hKernelIdeal := hKernelIdeal)
    ∧ quiescent_Tail (hTail := hTail)
    ∧ quiescent_TailIdeal (hTailIdeal := hTailIdeal)
    ∧ quiescent_TailRefIdeal (hTailRefIdeal := hTailRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Mod (hMod := hMod)
    ∧ quiescent_ModIdeal (hModIdeal := hModIdeal)
    ∧ quiescent_ModRefIdeal (hModRefIdeal := hModRefIdeal)
    ∧ preserves_Kernel_KernelIdeal
    ∧ holds_KernelIdeal_cast_weights (hKernelIdeal := hKernelIdeal) (hPost_cast_weights := hPost_cast_weights)
    ∧ preserves_Tail_TailIdeal
    ∧ algebraic_TailIdeal_TailRefIdeal (hTailIdeal := hTailIdeal) (hTailRefIdeal := hTailRefIdeal)
    ∧ preserves_Inproj_InprojIdeal
    ∧ algebraic_InprojIdeal_InprojRefIdeal (hInprojIdeal := hInprojIdeal) (hInprojRefIdeal := hInprojRefIdeal)
    ∧ preserves_Mod_ModIdeal
    ∧ algebraic_ModIdeal_ModRefIdeal (hModIdeal := hModIdeal) (hModRefIdeal := hModRefIdeal)
-- ==== Post_cast_weights.lean ====
abbrev S32768x3072 : Shape := ⟨2, ![32768, 3072]⟩
abbrev S2048x2048 : Shape := ⟨2, ![2048, 2048]⟩
abbrev S2048x5632 : Shape := ⟨2, ![2048, 5632]⟩
abbrev S5632x2048 : Shape := ⟨2, ![5632, 2048]⟩
abbrev S32768x1024 : Shape := ⟨2, ![32768, 1024]⟩

class Facts : Prop where
  bitsLt_bf16_f32 : FTy.bits .bf16 < FTy.bits .f32

variable [Facts]

def fn {F : FTy → Type} [FloatOps F] (main_arg0 : FVec F S32768x3072 .bf16) (main_arg1 : FVec F S2048x2048 .f32) (main_arg2 : FVec F S2048x5632 .f32) (main_arg3 : FVec F S2048x5632 .f32) (main_arg4 : FVec F S5632x2048 .f32) (main_arg5 : FVec F S32768x1024 .bf16) (main_arg6 : FVec F S2048x2048 .bf16) (main_arg7 : FVec F S2048x5632 .bf16) (main_arg8 : FVec F S2048x5632 .bf16) (main_arg9 : FVec F S5632x2048 .bf16) : IVec S2048x2048 1 × IVec S2048x5632 1 × IVec S2048x5632 1 × IVec S5632x2048 1 :=
  let main_v0 : FVec F S2048x2048 .bf16 := (truncf .bf16 · bitsLt_bf16_f32) main_arg1
  let main_v1 : IVec S2048x2048 1 := cmpf .oeq main_arg6 main_v0
  let main_v2 : FVec F S2048x5632 .bf16 := (truncf .bf16 · bitsLt_bf16_f32) main_arg2
  let main_v3 : IVec S2048x5632 1 := cmpf .oeq main_arg7 main_v2
  let main_v4 : FVec F S2048x5632 .bf16 := (truncf .bf16 · bitsLt_bf16_f32) main_arg3
  let main_v5 : IVec S2048x5632 1 := cmpf .oeq main_arg8 main_v4
  let main_v6 : FVec F S5632x2048 .bf16 := (truncf .bf16 · bitsLt_bf16_f32) main_arg4
  let main_v7 : IVec S5632x2048 1 := cmpf .oeq main_arg9 main_v6
  (main_v1, main_v3, main_v5, main_v7)
-- ==== Kernel.lean ====
abbrev S32768x3072 : Shape := ⟨2, ![32768, 3072]⟩
abbrev S2048x2048 : Shape := ⟨2, ![2048, 2048]⟩
abbrev S2048x5632 : Shape := ⟨2, ![2048, 5632]⟩
abbrev S5632x2048 : Shape := ⟨2, ![5632, 2048]⟩
abbrev S32768x1024 : Shape := ⟨2, ![32768, 1024]⟩
abbrev S2048x512 : Shape := ⟨2, ![2048, 512]⟩
abbrev S64x2048 : Shape := ⟨2, ![64, 2048]⟩
abbrev S64x5632 : Shape := ⟨2, ![64, 5632]⟩
abbrev S176x2048 : Shape := ⟨2, ![176, 2048]⟩
abbrev S4x144x2048 : Shape := ⟨3, ![4, 144, 2048]⟩
abbrev S8x2048x256 : Shape := ⟨3, ![8, 2048, 256]⟩
abbrev S256x256 : Shape := ⟨2, ![256, 256]⟩
abbrev S8x256 : Shape := ⟨2, ![8, 256]⟩
abbrev S2048x128 : Shape := ⟨2, ![2048, 128]⟩
abbrev S128x2048 : Shape := ⟨2, ![128, 2048]⟩
abbrev S1x128x2048 : Shape := ⟨3, ![1, 128, 2048]⟩
abbrev S16x2048 : Shape := ⟨2, ![16, 2048]⟩
abbrev S1x16x2048 : Shape := ⟨3, ![1, 16, 2048]⟩
abbrev S8x256x128 : Shape := ⟨3, ![8, 256, 128]⟩
abbrev S8x128 : Shape := ⟨2, ![8, 128]⟩
abbrev S16x128 : Shape := ⟨2, ![16, 128]⟩
abbrev S8x2048 : Shape := ⟨2, ![8, 2048]⟩
abbrev S256x128 : Shape := ⟨2, ![256, 128]⟩
abbrev S1x256x256 : Shape := ⟨3, ![1, 256, 256]⟩
abbrev S256 : Shape := ⟨1, ![256]⟩
abbrev S1x256 : Shape := ⟨2, ![1, 256]⟩
abbrev S1x144x256 : Shape := ⟨3, ![1, 144, 256]⟩
abbrev S144x256 : Shape := ⟨2, ![144, 256]⟩
abbrev S128x256 : Shape := ⟨2, ![128, 256]⟩
abbrev S1x144x2048 : Shape := ⟨3, ![1, 144, 2048]⟩
abbrev S144x2048 : Shape := ⟨2, ![144, 2048]⟩
abbrev S1x2048x256 : Shape := ⟨3, ![1, 2048, 256]⟩
abbrev S2048x256 : Shape := ⟨2, ![2048, 256]⟩
abbrev S1x144x512 : Shape := ⟨3, ![1, 144, 512]⟩
abbrev S144x512 : Shape := ⟨2, ![144, 512]⟩
abbrev S1x512x256 : Shape := ⟨3, ![1, 512, 256]⟩
abbrev S512x256 : Shape := ⟨2, ![512, 256]⟩
abbrev S1x144x1792 : Shape := ⟨3, ![1, 144, 1792]⟩
abbrev S144x1792 : Shape := ⟨2, ![144, 1792]⟩
abbrev S1x1792x256 : Shape := ⟨3, ![1, 1792, 256]⟩
abbrev S1792x256 : Shape := ⟨2, ![1792, 256]⟩
abbrev S1x144x768 : Shape := ⟨3, ![1, 144, 768]⟩
abbrev S144x768 : Shape := ⟨2, ![144, 768]⟩
abbrev S1x768x256 : Shape := ⟨3, ![1, 768, 256]⟩
abbrev S768x256 : Shape := ⟨2, ![768, 256]⟩
abbrev S1x144x1536 : Shape := ⟨3, ![1, 144, 1536]⟩
abbrev S144x1536 : Shape := ⟨2, ![144, 1536]⟩
abbrev S1x1536x256 : Shape := ⟨3, ![1, 1536, 256]⟩
abbrev S1536x256 : Shape := ⟨2, ![1536, 256]⟩
abbrev S1x144x1024 : Shape := ⟨3, ![1, 144, 1024]⟩
abbrev S144x1024 : Shape := ⟨2, ![144, 1024]⟩
abbrev S1x1024x256 : Shape := ⟨3, ![1, 1024, 256]⟩
abbrev S1024x256 : Shape := ⟨2, ![1024, 256]⟩
abbrev S1x144x1280 : Shape := ⟨3, ![1, 144, 1280]⟩
abbrev S144x1280 : Shape := ⟨2, ![144, 1280]⟩
abbrev S1x1280x256 : Shape := ⟨3, ![1, 1280, 256]⟩
abbrev S1280x256 : Shape := ⟨2, ![1280, 256]⟩

abbrev nBuf : Space → Nat
  | .hbm => 10
  | .vmem => 27
  | .smem => 0
  | _ => 0

abbrev bufTy : (tb : Table) → Fin (tcTables nBuf tb) → BufTy
  | .hbm, ⟨0, _⟩ => ⟨S32768x3072, .bf16⟩
  | .hbm, ⟨1, _⟩ => ⟨S2048x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S32768x1024, .bf16⟩
  | .hbm, ⟨6, _⟩ => ⟨S2048x2048, .bf16⟩
  | .hbm, ⟨7, _⟩ => ⟨S2048x5632, .bf16⟩
  | .hbm, ⟨8, _⟩ => ⟨S2048x5632, .bf16⟩
  | .hbm, ⟨9, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S64x2048, .f32⟩
  | .local _ .vmem, ⟨7, _⟩ => ⟨S64x2048, .f32⟩
  | .local _ .vmem, ⟨8, _⟩ => ⟨S64x5632, .f32⟩
  | .local _ .vmem, ⟨9, _⟩ => ⟨S64x5632, .f32⟩
  | .local _ .vmem, ⟨10, _⟩ => ⟨S64x5632, .f32⟩
  | .local _ .vmem, ⟨11, _⟩ => ⟨S64x5632, .f32⟩
  | .local _ .vmem, ⟨12, _⟩ => ⟨S176x2048, .f32⟩
  | .local _ .vmem, ⟨13, _⟩ => ⟨S176x2048, .f32⟩
  | .local _ .vmem, ⟨14, _⟩ => ⟨S2048x512, .bf16⟩
  | .local _ .vmem, ⟨15, _⟩ => ⟨S2048x512, .bf16⟩
  | .local _ .vmem, ⟨16, _⟩ => ⟨S64x2048, .bf16⟩
  | .local _ .vmem, ⟨17, _⟩ => ⟨S64x2048, .bf16⟩
  | .local _ .vmem, ⟨18, _⟩ => ⟨S64x5632, .bf16⟩
  | .local _ .vmem, ⟨19, _⟩ => ⟨S64x5632, .bf16⟩
  | .local _ .vmem, ⟨20, _⟩ => ⟨S64x5632, .bf16⟩
  | .local _ .vmem, ⟨21, _⟩ => ⟨S64x5632, .bf16⟩
  | .local _ .vmem, ⟨22, _⟩ => ⟨S176x2048, .bf16⟩
  | .local _ .vmem, ⟨23, _⟩ => ⟨S176x2048, .bf16⟩
  | .local _ .vmem, ⟨24, _⟩ => ⟨S4x144x2048, .bf16⟩
  | .local _ .vmem, ⟨25, _⟩ => ⟨S8x2048x256, .f32⟩
  | .local _ .vmem, ⟨26, _⟩ => ⟨S8x2048x256, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S176x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== Tail.lean ====
abbrev S32768x1024 : Shape := ⟨2, ![32768, 1024]⟩
abbrev S2048x2048 : Shape := ⟨2, ![2048, 2048]⟩
abbrev S16x2048x2048 : Shape := ⟨3, ![16, 2048, 2048]⟩
abbrev S16x2048 : Shape := ⟨2, ![16, 2048]⟩
abbrev S2048 : Shape := ⟨1, ![2048]⟩
abbrev S2048x5632 : Shape := ⟨2, ![2048, 5632]⟩
abbrev S5632x2048 : Shape := ⟨2, ![5632, 2048]⟩
abbrev S16x1x2048 : Shape := ⟨3, ![16, 1, 2048]⟩
abbrev S1x2048 : Shape := ⟨2, ![1, 2048]⟩
abbrev S32768x2048 : Shape := ⟨2, ![32768, 2048]⟩
abbrev S512x1024 : Shape := ⟨2, ![512, 1024]⟩
abbrev S1x512x2048 : Shape := ⟨3, ![1, 512, 2048]⟩
abbrev S1x1x2048 : Shape := ⟨3, ![1, 1, 2048]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩
abbrev S32768x5632 : Shape := ⟨2, ![32768, 5632]⟩
abbrev S2048x512 : Shape := ⟨2, ![2048, 512]⟩
abbrev S1024x512 : Shape := ⟨2, ![1024, 512]⟩
abbrev S512x5632 : Shape := ⟨2, ![512, 5632]⟩

abbrev nBuf : Space → Nat
  | .hbm => 23
  | .vmem => 36
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .bf16⟩
  | .hbm, ⟨3, _⟩ => ⟨S16x2048x2048, .f32⟩
  | .hbm, ⟨4, _⟩ => ⟨S16x2048, .f32⟩
  | .hbm, ⟨5, _⟩ => ⟨S2048, .f32⟩
  | .hbm, ⟨6, _⟩ => ⟨S16x2048, .f32⟩
  | .hbm, ⟨7, _⟩ => ⟨S16x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S16x2048, .f32⟩
  | .hbm, ⟨12, _⟩ => ⟨S2048, .f32⟩
  | .hbm, ⟨13, _⟩ => ⟨S16x1x2048, .f32⟩
  | .hbm, ⟨14, _⟩ => ⟨S16x1x2048, .f32⟩
  | .hbm, ⟨15, _⟩ => ⟨S16x1x2048, .f32⟩
  | .hbm, ⟨16, _⟩ => ⟨S16x1x2048, .f32⟩
  | .hbm, ⟨17, _⟩ => ⟨S1x2048, .f32⟩
  | .hbm, ⟨18, _⟩ => ⟨S32768x2048, .f32⟩
  | .hbm, ⟨19, _⟩ => ⟨S32768x2048, .bf16⟩
  | .hbm, ⟨20, _⟩ => ⟨S32768x5632, .bf16⟩
  | .hbm, ⟨21, _⟩ => ⟨S1x2048, .f32⟩
  | .hbm, ⟨22, _⟩ => ⟨S16x2048x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S1x512x2048, .f32⟩
  | .local _ .vmem, ⟨6, _⟩ => ⟨S1x512x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S1024x2048, .bf16⟩
  | .local _ .vmem, ⟨19, _⟩ => ⟨S1024x2048, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S2048x512, .bf16⟩
  | .local _ .vmem, ⟨24, _⟩ => ⟨S1024x512, .bf16⟩
  | .local _ .vmem, ⟨25, _⟩ => ⟨S1024x512, .bf16⟩
  | .local _ .vmem, ⟨26, _⟩ => ⟨S512x5632, .bf16⟩
  | .local _ .vmem, ⟨27, _⟩ => ⟨S512x5632, .bf16⟩
  | .local _ .vmem, ⟨28, _⟩ => ⟨S5632x2048, .bf16⟩
  | .local _ .vmem, ⟨29, _⟩ => ⟨S512x2048, .f32⟩
  | .local _ .vmem, ⟨30, _⟩ => ⟨S512x2048, .f32⟩
  | .local _ .vmem, ⟨31, _⟩ => ⟨S1x1x2048, .f32⟩
  | .local _ .vmem, ⟨32, _⟩ => ⟨S1x1x2048, .f32⟩
  | .local _ .vmem, ⟨33, _⟩ => ⟨S1x2048, .f32⟩
  | .local _ .vmem, ⟨34, _⟩ => ⟨S1x512x2048, .f32⟩
  | .local _ .vmem, ⟨35, _⟩ => ⟨S1x512x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![32, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S512x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S5632x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== TailRefIdeal.lean ====
abbrev S32768x1024 : Shape := ⟨2, ![32768, 1024]⟩
abbrev S2048x2048 : Shape := ⟨2, ![2048, 2048]⟩
abbrev S16x2048x2048 : Shape := ⟨3, ![16, 2048, 2048]⟩
abbrev S16x2048 : Shape := ⟨2, ![16, 2048]⟩
abbrev S2048 : Shape := ⟨1, ![2048]⟩
abbrev S2048x5632 : Shape := ⟨2, ![2048, 5632]⟩
abbrev S5632x2048 : Shape := ⟨2, ![5632, 2048]⟩
abbrev S16x2048x1024 : Shape := ⟨3, ![16, 2048, 1024]⟩
abbrev S16x1x2048 : Shape := ⟨3, ![16, 1, 2048]⟩
abbrev S_ : Shape := ⟨0, ![]⟩
abbrev S16x2048x1 : Shape := ⟨3, ![16, 2048, 1]⟩
abbrev S1x1x2048 : Shape := ⟨3, ![1, 1, 2048]⟩
abbrev S16x2048x5632 : Shape := ⟨3, ![16, 2048, 5632]⟩

abbrev nBuf : Space → Nat
  | .hbm => 85
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .bf16⟩
  | .hbm, ⟨3, _⟩ => ⟨S16x2048x2048, .f32⟩
  | .hbm, ⟨4, _⟩ => ⟨S16x2048, .f32⟩
  | .hbm, ⟨5, _⟩ => ⟨S2048, .f32⟩
  | .hbm, ⟨6, _⟩ => ⟨S16x2048, .f32⟩
  | .hbm, ⟨7, _⟩ => ⟨S16x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S16x2048, .f32⟩
  | .hbm, ⟨12, _⟩ => ⟨S2048, .f32⟩
  | .hbm, ⟨13, _⟩ => ⟨S2048x2048, .f32⟩
  | .hbm, ⟨14, _⟩ => ⟨S2048x5632, .f32⟩
  | .hbm, ⟨15, _⟩ => ⟨S2048x5632, .f32⟩
  | .hbm, ⟨16, _⟩ => ⟨S5632x2048, .f32⟩
  | .hbm, ⟨17, _⟩ => ⟨S16x2048x1024, .bf16⟩
  | .hbm, ⟨18, _⟩ => ⟨S16x2048x1024, .f32⟩
  | .hbm, ⟨19, _⟩ => ⟨S16x2048x1024, .bf16⟩
  | .hbm, ⟨20, _⟩ => ⟨S16x2048x1024, .f32⟩
  | .hbm, ⟨21, _⟩ => ⟨S16x2048x2048, .f32⟩
  | .hbm, ⟨22, _⟩ => ⟨S16x2048x2048, .f32⟩
  | .hbm, ⟨23, _⟩ => ⟨S16x1x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1, .f32⟩
  | .hbm, ⟨38, _⟩ => ⟨S16x2048x2048, .f32⟩
  | .hbm, ⟨39, _⟩ => ⟨S16x2048x2048, .f32⟩
  | .hbm, ⟨40, _⟩ => ⟨S1x1x2048, .f32⟩
  | .hbm, ⟨41, _⟩ => ⟨S16x2048x2048, .f32⟩
  | .hbm, ⟨42, _⟩ => ⟨S16x2048x2048, .f32⟩
  | .hbm, ⟨43, _⟩ => ⟨S16x1x2048, .f32⟩
  | .hbm, ⟨44, _⟩ => ⟨S_, .f32⟩
  | .hbm, ⟨45, _⟩ => ⟨S16x1x2048, .f32⟩
  | .hbm, ⟨46, _⟩ => ⟨S16x1x2048, .f32⟩
  | .hbm, ⟨47, _⟩ => ⟨S16x2048x2048, .f32⟩
  | .hbm, ⟨48, _⟩ => ⟨S16x2048x2048, .f32⟩
  | .hbm, ⟨49, _⟩ => ⟨S16x1x2048, .f32⟩
  | .hbm, ⟨50, _⟩ => ⟨S16x2048x2048, .f32⟩
  | .hbm, ⟨51, _⟩ => ⟨S16x2048x2048, .f32⟩
  | .hbm, ⟨52, _⟩ => ⟨S16x2048x5632, .f32⟩
  | .hbm, ⟨53, _⟩ => ⟨S16x2048x5632, .f32⟩
  | .hbm, ⟨54, _⟩ => ⟨S16x2048x5632, .f32⟩
  | .hbm, ⟨55, _⟩ => ⟨S_, .f32⟩
  | .hbm, ⟨56, _⟩ => ⟨S16x2048x5632, .f32⟩
  | .hbm, ⟨57, _⟩ => ⟨S16x2048x5632, .f32⟩
  | .hbm, ⟨58, _⟩ => ⟨S_, .f32⟩
  | .hbm, ⟨59, _⟩ => ⟨S16x2048x5632, .f32⟩
  | .hbm, ⟨60, _⟩ => ⟨S16x2048x5632, .f32⟩
  | .hbm, ⟨61, _⟩ => ⟨S16x2048x5632, .f32⟩
  | .hbm, ⟨62, _⟩ => ⟨S16x2048x5632, .f32⟩
  | .hbm, ⟨63, _⟩ => ⟨S16x2048x5632, .f32⟩
  | .hbm, ⟨64, _⟩ => ⟨S16x2048x2048, .f32⟩
  | .hbm, ⟨65, _⟩ => ⟨S16x1x2048, .f32⟩
  | .hbm, ⟨66, _⟩ => ⟨S16x2048x2048, .f32⟩
  | .hbm, ⟨67, _⟩ => ⟨S16x2048x2048, .f32⟩
  | .hbm, ⟨68, _⟩ => ⟨S16x2048x2048, .f32⟩
  | .hbm, ⟨69, _⟩ => ⟨S16x2048x2048, .f32⟩
  | .hbm, ⟨70, _⟩ => ⟨S_, .f32⟩
  | .hbm, ⟨71, _⟩ => ⟨S16x2048, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S16x2048x1, .f32⟩
  | .hbm, ⟨80, _⟩ => ⟨S16x2048x2048, .f32⟩
  | .hbm, ⟨81, _⟩ => ⟨S16x2048x2048, .f32⟩
  | .hbm, ⟨82, _⟩ => ⟨S1x1x2048, .f32⟩
  | .hbm, ⟨83, _⟩ => ⟨S16x2048x2048, .f32⟩
  | .hbm, ⟨84, _⟩ => ⟨S16x2048x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]
-- ==== Inproj.lean ====
abbrev S16x2048x2048 : Shape := ⟨3, ![16, 2048, 2048]⟩
abbrev S2048 : Shape := ⟨1, ![2048]⟩
abbrev S16x2048 : Shape := ⟨2, ![16, 2048]⟩
abbrev S2048x5120 : Shape := ⟨2, ![2048, 5120]⟩
abbrev S31x1024 : Shape := ⟨2, ![31, 1024]⟩
abbrev S1024 : Shape := ⟨1, ![1024]⟩
abbrev S16x1x2048 : Shape := ⟨3, ![16, 1, 2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S2048x512 : Shape := ⟨2, ![2048, 512]⟩
abbrev S1x2048 : Shape := ⟨2, ![1, 2048]⟩
abbrev S1x1024 : Shape := ⟨2, ![1, 1024]⟩
abbrev S32768x3072 : Shape := ⟨2, ![32768, 3072]⟩
abbrev S32768x1024 : Shape := ⟨2, ![32768, 1024]⟩
abbrev S1x512x2048 : Shape := ⟨3, ![1, 512, 2048]⟩
abbrev S1x1x2048 : Shape := ⟨3, ![1, 1, 2048]⟩
abbrev S512x512 : Shape := ⟨2, ![512, 512]⟩
abbrev S512x3072 : Shape := ⟨2, ![512, 3072]⟩
abbrev S512x1024 : Shape := ⟨2, ![512, 1024]⟩
abbrev S512x2048 : Shape := ⟨2, ![512, 2048]⟩
abbrev S8x544x128 : Shape := ⟨3, ![8, 544, 128]⟩
abbrev S8x32x128 : Shape := ⟨3, ![8, 32, 128]⟩
abbrev S2x7x544x128 : Shape := ⟨4, ![2, 7, 544, 128]⟩
abbrev S512 : Shape := ⟨1, ![512]⟩
abbrev S512x1 : Shape := ⟨2, ![512, 1]⟩
abbrev S2048x1024 : Shape := ⟨2, ![2048, 1024]⟩
abbrev S1x32x128 : Shape := ⟨3, ![1, 32, 128]⟩
abbrev S32x128 : Shape := ⟨2, ![32, 128]⟩
abbrev S512x128 : Shape := ⟨2, ![512, 128]⟩
abbrev S1x512x128 : Shape := ⟨3, ![1, 512, 128]⟩
abbrev S1x536x128 : Shape := ⟨3, ![1, 536, 128]⟩
abbrev S536x128 : Shape := ⟨2, ![536, 128]⟩
abbrev S1x1x536x128 : Shape := ⟨4, ![1, 1, 536, 128]⟩
abbrev S1x128 : Shape := ⟨2, ![1, 128]⟩
abbrev S64x128 : Shape := ⟨2, ![64, 128]⟩
abbrev S1x1x64x128 : Shape := ⟨4, ![1, 1, 64, 128]⟩
abbrev S1x64x128 : Shape := ⟨3, ![1, 64, 128]⟩

abbrev nBuf : Space → Nat
  | .hbm => 43
  | .vmem => 23
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x2048, .f32⟩
  | .hbm, ⟨3, _⟩ => ⟨S16x2048, .f32⟩
  | .hbm, ⟨4, _⟩ => ⟨S2048x5120, .bf16⟩
  | .hbm, ⟨5, _⟩ => ⟨S31x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S16x1x2048, .f32⟩
  | .hbm, ⟨10, _⟩ => ⟨S16x1x2048, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S2048, .f32⟩
  | .hbm, ⟨20, _⟩ => ⟨S2048x1, .f32⟩
  | .hbm, ⟨21, _⟩ => ⟨S1x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x128, .f32⟩
  | .hbm, ⟨28, _⟩ => ⟨S2048x64, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S_, .f32⟩
  | .hbm, ⟨34, _⟩ => ⟨S2048x128, .f32⟩
  | .hbm, ⟨35, _⟩ => ⟨S2048x128, .f32⟩
  | .hbm, ⟨36, _⟩ => ⟨S2048x512, .f32⟩
  | .hbm, ⟨37, _⟩ => ⟨S1x2048, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S32768x3072, .bf16⟩
  | .hbm, ⟨42, _⟩ => ⟨S32768x1024, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x5120, .bf16⟩
  | .local _ .vmem, ⟨8, _⟩ => ⟨S512x512, .f32⟩
  | .local _ .vmem, ⟨9, _⟩ => ⟨S512x512, .f32⟩
  | .local _ .vmem, ⟨10, _⟩ => ⟨S31x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x3072, .bf16⟩
  | .local _ .vmem, ⟨15, _⟩ => ⟨S512x3072, .bf16⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S8x544x128, .f32⟩
  | .local _ .vmem, ⟨20, _⟩ => ⟨S8x32x128, .f32⟩
  | .local _ .vmem, ⟨21, _⟩ => ⟨S2x7x544x128, .f32⟩
  | .local _ .vmem, ⟨22, _⟩ => ⟨S512x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InprojRefIdeal.lean ====
abbrev S16x2048x2048 : Shape := ⟨3, ![16, 2048, 2048]⟩
abbrev S2048 : Shape := ⟨1, ![2048]⟩
abbrev S16x2048 : Shape := ⟨2, ![16, 2048]⟩
abbrev S2048x5120 : Shape := ⟨2, ![2048, 5120]⟩
abbrev S31x1024 : Shape := ⟨2, ![31, 1024]⟩
abbrev S1024 : Shape := ⟨1, ![1024]⟩
abbrev S_ : Shape := ⟨0, ![]⟩
abbrev S16x2048x1 : Shape := ⟨3, ![16, 2048, 1]⟩
abbrev S1x1x2048 : Shape := ⟨3, ![1, 1, 2048]⟩
abbrev S16x1x2048 : Shape := ⟨3, ![16, 1, 2048]⟩
abbrev S16x2048x5120 : Shape := ⟨3, ![16, 2048, 5120]⟩
abbrev S16x2048x1024 : Shape := ⟨3, ![16, 2048, 1024]⟩
abbrev S16x2048x8x128 : Shape := ⟨4, ![16, 2048, 8, 128]⟩
abbrev S16x8x2048x128 : Shape := ⟨4, ![16, 8, 2048, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S16x8x2048x64 : Shape := ⟨4, ![16, 8, 2048, 64]⟩
abbrev S1x1x2048x64 : Shape := ⟨4, ![1, 1, 2048, 64]⟩
abbrev S32768x1024 : Shape := ⟨2, ![32768, 1024]⟩
abbrev S32768x3072 : Shape := ⟨2, ![32768, 3072]⟩
abbrev S16x2078x1024 : Shape := ⟨3, ![16, 2078, 1024]⟩
abbrev S1x1024 : Shape := ⟨2, ![1, 1024]⟩
abbrev S1x1x1024 : Shape := ⟨3, ![1, 1, 1024]⟩

abbrev nBuf : Space → Nat
  | .hbm => 394
  | .vmem => 0
  | .smem => 0
  | _ => 0

abbrev hbmTy0_0 (i : Nat) : BufTy := match i % 128 with
  | 0 => ⟨S16x2048x2048, .f32⟩
  | 1 => ⟨S2048, .f32⟩
  | 2 => ⟨S16x2048, .f32⟩
  | 3 => ⟨S16x2048, .f32⟩
  | 4 => ⟨S2048x5120, .bf16⟩
  | 5 => ⟨S31x1024, .f32⟩
  | 6 => ⟨S1024, .f32⟩
  | 7 => ⟨S1024, .f32⟩
  | 8 => ⟨S1024, .f32⟩
  | 9 => ⟨S2048, .f32⟩
  | 10 => ⟨S16x2048x2048, .f32⟩
  | 11 => ⟨S_, .f32⟩
  | 12 => ⟨S16x2048, .f32⟩
  | 13 => ⟨S16x2048x1, .f32⟩
  | 14 => ⟨S_, .f32⟩
  | 15 => ⟨S16x2048x1, .f32⟩
  | 16 => ⟨S16x2048x1, .f32⟩
  | 17 => ⟨S_, .f32⟩
  | 18 => ⟨S16x2048x1, .f32⟩
  | 19 => ⟨S16x2048x1, .f32⟩
  | 20 => ⟨S16x2048x1, .f32⟩
  | 21 => ⟨S16x2048x2048, .f32⟩
  | 22 => ⟨S16x2048x2048, .f32⟩
  | 23 => ⟨S1x1x2048, .f32⟩
  | 24 => ⟨S16x2048x2048, .f32⟩
  | 25 => ⟨S16x2048x2048, .f32⟩
  | 26 => ⟨S16x1x2048, .f32⟩
  | 27 => ⟨S_, .f32⟩
  | 28 => ⟨S16x1x2048, .f32⟩
  | 29 => ⟨S16x1x2048, .f32⟩
  | 30 => ⟨S16x2048x2048, .f32⟩
  | 31 => ⟨S16x2048x2048, .f32⟩
  | 32 => ⟨S16x1x2048, .f32⟩
  | 33 => ⟨S16x2048x2048, .f32⟩
  | 34 => ⟨S16x2048x2048, .f32⟩
  | 35 => ⟨S2048x5120, .f32⟩
  | 36 => ⟨S16x2048x5120, .f32⟩
  | 37 => ⟨S16x2048x1024, .f32⟩
  | 38 => ⟨S16x2048x1024, .f32⟩
  | 39 => ⟨S16x2048x1024, .f32⟩
  | 40 => ⟨S16x2048x1024, .f32⟩
  | 41 => ⟨S16x2048x1024, .f32⟩
  | 42 => ⟨S16x2048x8x128, .f32⟩
  | 43 => ⟨S16x8x2048x128, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S2048x1, .f32⟩
  | 53 => ⟨S1x64, .f32⟩
  | 54 => ⟨S2048x64, .f32⟩
  | 55 => ⟨S2048x64, .f32⟩
  | 56 => ⟨S2048x64, .f32⟩
  | 57 => ⟨S2048x64, .f32⟩
  | 58 => ⟨S2048x64, .f32⟩
  | 59 => ⟨S16x8x2048x64, .f32⟩
  | 60 => ⟨S16x8x2048x64, .f32⟩
  | 61 => ⟨S1x1x2048x64, .f32⟩
  | 62 => ⟨S16x8x2048x64, .f32⟩
  | 63 => ⟨S16x8x2048x64, .f32⟩
  | 64 => ⟨S1x1x2048x64, .f32⟩
  | 65 => ⟨S16x8x2048x64, .f32⟩
  | 66 => ⟨S16x8x2048x64, .f32⟩
  | 67 => ⟨S16x8x2048x64, .f32⟩
  | 68 => ⟨S1x1x2048x64, .f32⟩
  | 69 => ⟨S16x8x2048x64, .f32⟩
  | 70 => ⟨S16x8x2048x64, .f32⟩
  | 71 => ⟨S1x1x2048x64, .f32⟩
  | 72 => ⟨S16x8x2048x64, .f32⟩
  | 73 => ⟨S16x8x2048x64, .f32⟩
  | 74 => ⟨S16x8x2048x64, .f32⟩
  | 75 => ⟨S16x8x2048x128, .f32⟩
  | 76 => ⟨S16x2048x8x128, .f32⟩
  | 77 => ⟨S32768x1024, .f32⟩
  | 78 => ⟨S_, .f32⟩
  | 79 => ⟨S32768x1024, .f32⟩
  | 80 => ⟨S32768x1024, .f32⟩
  | 81 => ⟨S16x2048x8x128, .f32⟩
  | 82 => ⟨S16x8x2048x128, .f32⟩
  | 83 => ⟨S64, .f32⟩
  | 84 => ⟨S64, .f32⟩
  | 85 => ⟨S_, .f32⟩
  | 86 => ⟨S64, .f32⟩
  | 87 => ⟨S64, .f32⟩
  | 88 => ⟨S_, .f32⟩
  | 89 => ⟨S64, .f32⟩
  | 90 => ⟨S64, .f32⟩
  | 91 => ⟨S2048x1, .f32⟩
  | 92 => ⟨S1x64, .f32⟩
  | 93 => ⟨S2048x64, .f32⟩
  | 94 => ⟨S2048x64, .f32⟩
  | 95 => ⟨S2048x64, .f32⟩
  | 96 => ⟨S2048x64, .f32⟩
  | 97 => ⟨S2048x64, .f32⟩
  | 98 => ⟨S16x8x2048x64, .f32⟩
  | 99 => ⟨S16x8x2048x64, .f32⟩
  | 100 => ⟨S1x1x2048x64, .f32⟩
  | 101 => ⟨S16x8x2048x64, .f32⟩
  | 102 => ⟨S16x8x2048x64, .f32⟩
  | 103 => ⟨S1x1x2048x64, .f32⟩
  | 104 => ⟨S16x8x2048x64, .f32⟩
  | 105 => ⟨S16x8x2048x64, .f32⟩
  | 106 => ⟨S16x8x2048x64, .f32⟩
  | 107 => ⟨S1x1x2048x64, .f32⟩
  | 108 => ⟨S16x8x2048x64, .f32⟩
  | 109 => ⟨S16x8x2048x64, .f32⟩
  | 110 => ⟨S1x1x2048x64, .f32⟩
  | 111 => ⟨S16x8x2048x64, .f32⟩
  | 112 => ⟨S16x8x2048x64, .f32⟩
  | 113 => ⟨S16x8x2048x64, .f32⟩
  | 114 => ⟨S16x8x2048x128, .f32⟩
  | 115 => ⟨S16x2048x8x128, .f32⟩
  | 116 => ⟨S32768x1024, .f32⟩
  | 117 => ⟨S32768x1024, .f32⟩
  | 118 => ⟨S32768x3072, .f32⟩
  | 119 => ⟨S16x2048x1024, .f32⟩
  | 120 => ⟨S16x2048x1024, .f32⟩
  | 121 => ⟨S_, .f32⟩
  | 122 => ⟨S16x2048x1024, .f32⟩
  | 123 => ⟨S16x2048x1024, .f32⟩
  | 124 => ⟨S_, .f32⟩
  | 125 => ⟨S16x2048x1024, .f32⟩
  | 126 => ⟨S16x2048x1024, .f32⟩
  | 127 => ⟨S16x2048x1024, .f32⟩
  | _ => ⟨S16x2048x2048, .f32⟩

abbrev hbmTy0_1 (i : Nat) : BufTy := match i % 128 with
  | 0 => ⟨S_, .i32⟩
  | 1 => ⟨S_, .f32⟩
  | 2 => ⟨S16x2078x1024, .f32⟩
  | 3 => ⟨S16x2048x1024, .f32⟩
  | 4 => ⟨S1x1024, .f32⟩
  | 5 => ⟨S1024, .f32⟩
  | 6 => ⟨S1x1x1024, .f32⟩
  | 7 => ⟨S16x2048x1024, .f32⟩
  | 8 => ⟨S16x2048x1024, .f32⟩
  | 9 => ⟨S_, .f32⟩
  | 10 => ⟨S16x2048x1024, .f32⟩
  | 11 => ⟨S16x2048x1024, .f32⟩
  | 12 => ⟨S16x2048x1024, .f32⟩
  | 13 => ⟨S1x1024, .f32⟩
  | 14 => ⟨S1024, .f32⟩
  | 15 => ⟨S1x1x1024, .f32⟩
  | 16 => ⟨S16x2048x1024, .f32⟩
  | 17 => ⟨S16x2048x1024, .f32⟩
  | 18 => ⟨S16x2048x1024, .f32⟩
  | 19 => ⟨S16x2048x1024, .f32⟩
  | 20 => ⟨S1x1024, .f32⟩
  | 21 => ⟨S1024, .f32⟩
  | 22 => ⟨S1x1x1024, .f32⟩
  | 23 => ⟨S16x2048x1024, .f32⟩
  | 24 => ⟨S16x2048x1024, .f32⟩
  | 25 => ⟨S16x2048x1024, .f32⟩
  | 26 => ⟨S16x2048x1024, .f32⟩
  | 27 => ⟨S1x1024, .f32⟩
  | 28 => ⟨S1024, .f32⟩
  | 29 => ⟨S1x1x1024, .f32⟩
  | 30 => ⟨S16x2048x1024, .f32⟩
  | 31 => ⟨S16x2048x1024, .f32⟩
  | 32 => ⟨S16x2048x1024, .f32⟩
  | 33 => ⟨S16x2048x1024, .f32⟩
  | 34 => ⟨S1x1024, .f32⟩
  | 35 => ⟨S1024, .f32⟩
  | 36 => ⟨S1x1x1024, .f32⟩
  | 37 => ⟨S16x2048x1024, .f32⟩
  | 38 => ⟨S16x2048x1024, .f32⟩
  | 39 => ⟨S16x2048x1024, .f32⟩
  | 40 => ⟨S16x2048x1024, .f32⟩
  | 41 => ⟨S1x1024, .f32⟩
  | 42 => ⟨S1024, .f32⟩
  | 43 => ⟨S1x1x1024, .f32⟩
  | 44 => ⟨S16x2048x1024, .f32⟩
  | 45 => ⟨S16x2048x1024, .f32⟩
  | 46 => ⟨S16x2048x1024, .f32⟩
  | 47 => ⟨S16x2048x1024, .f32⟩
  | 48 => ⟨S1x1024, .f32⟩
  | 49 => ⟨S1024, .f32⟩
  | 50 => ⟨S1x1x1024, .f32⟩
  | 51 => ⟨S16x2048x1024, .f32⟩
  | 52 => ⟨S16x2048x1024, .f32⟩
  | 53 => ⟨S16x2048x1024, .f32⟩
  | 54 => ⟨S16x2048x1024, .f32⟩
  | 55 => ⟨S1x1024, .f32⟩
  | 56 => ⟨S1024, .f32⟩
  | 57 => ⟨S1x1x1024, .f32⟩
  | 58 => ⟨S16x2048x1024, .f32⟩
  | 59 => ⟨S16x2048x1024, .f32⟩
  | 60 => ⟨S16x2048x1024, .f32⟩
  | 61 => ⟨S16x2048x1024, .f32⟩
  | 62 => ⟨S1x1024, .f32⟩
  | 63 => ⟨S1024, .f32⟩
  | 64 => ⟨S1x1x1024, .f32⟩
  | 65 => ⟨S16x2048x1024, .f32⟩
  | 66 => ⟨S16x2048x1024, .f32⟩
  | 67 => ⟨S16x2048x1024, .f32⟩
  | 68 => ⟨S16x2048x1024, .f32⟩
  | 69 => ⟨S1x1024, .f32⟩
  | 70 => ⟨S1024, .f32⟩
  | 71 => ⟨S1x1x1024, .f32⟩
  | 72 => ⟨S16x2048x1024, .f32⟩
  | 73 => ⟨S16x2048x1024, .f32⟩
  | 74 => ⟨S16x2048x1024, .f32⟩
  | 75 => ⟨S16x2048x1024, .f32⟩
  | 76 => ⟨S1x1024, .f32⟩
  | 77 => ⟨S1024, .f32⟩
  | 78 => ⟨S1x1x1024, .f32⟩
  | 79 => ⟨S16x2048x1024, .f32⟩
  | 80 => ⟨S16x2048x1024, .f32⟩
  | 81 => ⟨S16x2048x1024, .f32⟩
  | 82 => ⟨S16x2048x1024, .f32⟩
  | 83 => ⟨S1x1024, .f32⟩
  | 84 => ⟨S1024, .f32⟩
  | 85 => ⟨S1x1x1024, .f32⟩
  | 86 => ⟨S16x2048x1024, .f32⟩
  | 87 => ⟨S16x2048x1024, .f32⟩
  | 88 => ⟨S16x2048x1024, .f32⟩
  | 89 => ⟨S16x2048x1024, .f32⟩
  | 90 => ⟨S1x1024, .f32⟩
  | 91 => ⟨S1024, .f32⟩
  | 92 => ⟨S1x1x1024, .f32⟩
  | 93 => ⟨S16x2048x1024, .f32⟩
  | 94 => ⟨S16x2048x1024, .f32⟩
  | 95 => ⟨S16x2048x1024, .f32⟩
  | 96 => ⟨S16x2048x1024, .f32⟩
  | 97 => ⟨S1x1024, .f32⟩
  | 98 => ⟨S1024, .f32⟩
  | 99 => ⟨S1x1x1024, .f32⟩
  | 100 => ⟨S16x2048x1024, .f32⟩
  | 101 => ⟨S16x2048x1024, .f32⟩
  | 102 => ⟨S16x2048x1024, .f32⟩
  | 103 => ⟨S16x2048x1024, .f32⟩
  | 104 => ⟨S1x1024, .f32⟩
  | 105 => ⟨S1024, .f32⟩
  | 106 => ⟨S1x1x1024, .f32⟩
  | 107 => ⟨S16x2048x1024, .f32⟩
  | 108 => ⟨S16x2048x1024, .f32⟩
  | 109 => ⟨S16x2048x1024, .f32⟩
  | 110 => ⟨S16x2048x1024, .f32⟩
  | 111 => ⟨S1x1024, .f32⟩
  | 112 => ⟨S1024, .f32⟩
  | 113 => ⟨S1x1x1024, .f32⟩
  | 114 => ⟨S16x2048x1024, .f32⟩
  | 115 => ⟨S16x2048x1024, .f32⟩
  | 116 => ⟨S16x2048x1024, .f32⟩
  | 117 => ⟨S16x2048x1024, .f32⟩
  | 118 => ⟨S1x1024, .f32⟩
  | 119 => ⟨S1024, .f32⟩
  | 120 => ⟨S1x1x1024, .f32⟩
  | 121 => ⟨S16x2048x1024, .f32⟩
  | 122 => ⟨S16x2048x1024, .f32⟩
  | 123 => ⟨S16x2048x1024, .f32⟩
  | 124 => ⟨S16x2048x1024, .f32⟩
  | 125 => ⟨S1x1024, .f32⟩
  | 126 => ⟨S1024, .f32⟩
  | 127 => ⟨S1x1x1024, .f32⟩
  | _ => ⟨S16x2048x2048, .f32⟩

abbrev hbmTy0_2 (i : Nat) : BufTy := match i % 128 with
  | 0 => ⟨S16x2048x1024, .f32⟩
  | 1 => ⟨S16x2048x1024, .f32⟩
  | 2 => ⟨S16x2048x1024, .f32⟩
  | 3 => ⟨S16x2048x1024, .f32⟩
  | 4 => ⟨S1x1024, .f32⟩
  | 5 => ⟨S1024, .f32⟩
  | 6 => ⟨S1x1x1024, .f32⟩
  | 7 => ⟨S16x2048x1024, .f32⟩
  | 8 => ⟨S16x2048x1024, .f32⟩
  | 9 => ⟨S16x2048x1024, .f32⟩
  | 10 => ⟨S16x2048x1024, .f32⟩
  | 11 => ⟨S1x1024, .f32⟩
  | 12 => ⟨S1024, .f32⟩
  | 13 => ⟨S1x1x1024, .f32⟩
  | 14 => ⟨S16x2048x1024, .f32⟩
  | 15 => ⟨S16x2048x1024, .f32⟩
  | 16 => ⟨S16x2048x1024, .f32⟩
  | 17 => ⟨S16x2048x1024, .f32⟩
  | 18 => ⟨S1x1024, .f32⟩
  | 19 => ⟨S1024, .f32⟩
  | 20 => ⟨S1x1x1024, .f32⟩
  | 21 => ⟨S16x2048x1024, .f32⟩
  | 22 => ⟨S16x2048x1024, .f32⟩
  | 23 => ⟨S16x2048x1024, .f32⟩
  | 24 => ⟨S16x2048x1024, .f32⟩
  | 25 => ⟨S1x1024, .f32⟩
  | 26 => ⟨S1024, .f32⟩
  | 27 => ⟨S1x1x1024, .f32⟩
  | 28 => ⟨S16x2048x1024, .f32⟩
  | 29 => ⟨S16x2048x1024, .f32⟩
  | 30 => ⟨S16x2048x1024, .f32⟩
  | 31 => ⟨S16x2048x1024, .f32⟩
  | 32 => ⟨S1x1024, .f32⟩
  | 33 => ⟨S1024, .f32⟩
  | 34 => ⟨S1x1x1024, .f32⟩
  | 35 => ⟨S16x2048x1024, .f32⟩
  | 36 => ⟨S16x2048x1024, .f32⟩
  | 37 => ⟨S16x2048x1024, .f32⟩
  | 38 => ⟨S16x2048x1024, .f32⟩
  | 39 => ⟨S1x1024, .f32⟩
  | 40 => ⟨S1024, .f32⟩
  | 41 => ⟨S1x1x1024, .f32⟩
  | 42 => ⟨S16x2048x1024, .f32⟩
  | 43 => ⟨S16x2048x1024, .f32⟩
  | 44 => ⟨S16x2048x1024, .f32⟩
  | 45 => ⟨S16x2048x1024, .f32⟩
  | 46 => ⟨S1x1024, .f32⟩
  | 47 => ⟨S1024, .f32⟩
  | 48 => ⟨S1x1x1024, .f32⟩
  | 49 => ⟨S16x2048x1024, .f32⟩
  | 50 => ⟨S16x2048x1024, .f32⟩
  | 51 => ⟨S16x2048x1024, .f32⟩
  | 52 => ⟨S16x2048x1024, .f32⟩
  | 53 => ⟨S1x1024, .f32⟩
  | 54 => ⟨S1024, .f32⟩
  | 55 => ⟨S1x1x1024, .f32⟩
  | 56 => ⟨S16x2048x1024, .f32⟩
  | 57 => ⟨S16x2048x1024, .f32⟩
  | 58 => ⟨S16x2048x1024, .f32⟩
  | 59 => ⟨S16x2048x1024, .f32⟩
  | 60 => ⟨S1x1024, .f32⟩
  | 61 => ⟨S1024, .f32⟩
  | 62 => ⟨S1x1x1024, .f32⟩
  | 63 => ⟨S16x2048x1024, .f32⟩
  | 64 => ⟨S16x2048x1024, .f32⟩
  | 65 => ⟨S16x2048x1024, .f32⟩
  | 66 => ⟨S16x2048x1024, .f32⟩
  | 67 => ⟨S1x1024, .f32⟩
  | 68 => ⟨S1024, .f32⟩
  | 69 => ⟨S1x1x1024, .f32⟩
  | 70 => ⟨S16x2048x1024, .f32⟩
  | 71 => ⟨S16x2048x1024, .f32⟩
  | 72 => ⟨S16x2048x1024, .f32⟩
  | 73 => ⟨S16x2048x1024, .f32⟩
  | 74 => ⟨S1x1024, .f32⟩
  | 75 => ⟨S1024, .f32⟩
  | 76 => ⟨S1x1x1024, .f32⟩
  | 77 => ⟨S16x2048x1024, .f32⟩
  | 78 => ⟨S16x2048x1024, .f32⟩
  | 79 => ⟨S16x2048x1024, .f32⟩
  | 80 => ⟨S16x2048x1024, .f32⟩
  | 81 => ⟨S1x1024, .f32⟩
  | 82 => ⟨S1024, .f32⟩
  | 83 => ⟨S1x1x1024, .f32⟩
  | 84 => ⟨S16x2048x1024, .f32⟩
  | 85 => ⟨S16x2048x1024, .f32⟩
  | 86 => ⟨S16x2048x1024, .f32⟩
  | 87 => ⟨S16x2048x1024, .f32⟩
  | 88 => ⟨S1x1024, .f32⟩
  | 89 => ⟨S1024, .f32⟩
  | 90 => ⟨S1x1x1024, .f32⟩
  | 91 => ⟨S16x2048x1024, .f32⟩
  | 92 => ⟨S16x2048x1024, .f32⟩
  | 93 => ⟨S16x2048x1024, .f32⟩
  | 94 => ⟨S1x1x1024, .f32⟩
  | 95 => ⟨S16x2048x1024, .f32⟩
  | 96 => ⟨S16x2048x1024, .f32⟩
  | 97 => ⟨S_, .f32⟩
  | 98 => ⟨S16x2048, .f32⟩
  | 99 => ⟨S16x2048x1, .f32⟩
  | 100 => ⟨S_, .f32⟩
  | 101 => ⟨S16x2048x1, .f32⟩
  | 102 => ⟨S16x2048x1, .f32⟩
  | 103 => ⟨S16x2048x1024, .f32⟩
  | 104 => ⟨S16x2048x1024, .f32⟩
  | 105 => ⟨S16x2048x1024, .f32⟩
  | 106 => ⟨S_, .f32⟩
  | 107 => ⟨S16x2048, .f32⟩
  | 108 => ⟨S16x2048x1, .f32⟩
  | 109 => ⟨S_, .f32⟩
  | 110 => ⟨S16x2048x1, .f32⟩
  | 111 => ⟨S16x2048x1, .f32⟩
  | 112 => ⟨S16x2048x1024, .f32⟩
  | 113 => ⟨S16x2048x1024, .f32⟩
  | 114 => ⟨S_, .f32⟩
  | 115 => ⟨S16x2048x1, .f32⟩
  | 116 => ⟨S16x2048x1, .f32⟩
  | 117 => ⟨S16x2048x1, .f32⟩
  | 118 => ⟨S16x2048x1024, .f32⟩
  | 119 => ⟨S16x2048x1024, .f32⟩
  | 120 => ⟨S1x1x1024, .f32⟩
  | 121 => ⟨S16x2048x1024, .f32⟩
  | 122 => ⟨S16x2048x1024, .f32⟩
  | 123 => ⟨S1x1x1024, .f32⟩
  | 124 => ⟨S16x2048x1024, .f32⟩
  | 125 => ⟨S16x2048x1024, .f32⟩
  | 126 => ⟨S16x2048x1024, .f32⟩
  | 127 => ⟨S16x2048x1024, .f32⟩
  | _ => ⟨S16x2048x2048, .f32⟩

abbrev hbmTy0_3 (i : Nat) : BufTy := match i % 128 with
  | 0 => ⟨S_, .f32⟩
  | 1 => ⟨S16x2048x1024, .f32⟩
  | 2 => ⟨S16x2048x1024, .f32⟩
  | 3 => ⟨S_, .f32⟩
  | 4 => ⟨S16x2048x1024, .f32⟩
  | 5 => ⟨S16x2048x1024, .f32⟩
  | 6 => ⟨S16x2048x1024, .f32⟩
  | 7 => ⟨S32768x3072, .bf16⟩
  | 8 => ⟨S32768x1024, .f32⟩
  | 9 => ⟨S32768x1024, .bf16⟩
  | _ => ⟨S16x2048x2048, .f32⟩

abbrev hbmTy (i : Nat) : BufTy := match i / 128 with
  | 0 => hbmTy0_0 i
  | 1 => hbmTy0_1 i
  | 2 => hbmTy0_2 i
  | 3 => hbmTy0_3 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_8 : Ref sig .tc := ⟨.hbm, 121, rfl⟩
abbrev main_v103 : Ref sig .tc := ⟨.hbm, 122, rfl⟩
abbrev main_v104 : Ref sig .tc := ⟨.hbm, 123, rfl⟩
abbrev main_cst_9 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_c : Ref sig .tc := ⟨.hbm, 128, rfl⟩
abbrev main_call0_v0 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_10 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_v296 : Ref sig .tc := ⟨.hbm, 319, rfl⟩
abbrev main_v297 : Ref sig .tc := ⟨.hbm, 320, rfl⟩
abbrev main_v298 : Ref sig .tc := ⟨.hbm, 321, rfl⟩
abbrev main_v299 : Ref sig .tc := ⟨.hbm, 322, rfl⟩
abbrev main_v300 : Ref sig .tc := ⟨.hbm, 323, rfl⟩
abbrev main_v301 : Ref sig .tc := ⟨.hbm, 324, rfl⟩
abbrev main_v302 : Ref sig .tc := ⟨.hbm, 325, rfl⟩
abbrev main_v303 : Ref sig .tc := ⟨.hbm, 326, rfl⟩
abbrev main_v304 : Ref sig .tc := ⟨.hbm, 327, rfl⟩
abbrev main_v305 : Ref sig .tc := ⟨.hbm, 328, rfl⟩
abbrev main_v306 : Ref sig .tc := ⟨.hbm, 329, rfl⟩
abbrev main_v307 : Ref sig .tc := ⟨.hbm, 330, rfl⟩
abbrev main_v308 : Ref sig .tc := ⟨.hbm, 331, rfl⟩
abbrev main_v309 : Ref sig .tc := ⟨.hbm, 332, rfl⟩
abbrev main_v310 : Ref sig .tc := ⟨.hbm, 333, rfl⟩
abbrev main_v311 : Ref sig .tc := ⟨.hbm, 334, rfl⟩
abbrev main_v312 : Ref sig .tc := ⟨.hbm, 335, rfl⟩
abbrev main_v313 : Ref sig .tc := ⟨.hbm, 336, rfl⟩
abbrev main_v314 : Ref sig .tc := ⟨.hbm, 337, rfl⟩
abbrev main_v315 : Ref sig .tc := ⟨.hbm, 338, rfl⟩
abbrev main_v316 : Ref sig .tc := ⟨.hbm, 339, rfl⟩
abbrev main_v317 : Ref sig .tc := ⟨.hbm, 340, rfl⟩
abbrev main_v318 : Ref sig .tc := ⟨.hbm, 341, rfl⟩
abbrev main_v319 : Ref sig .tc := ⟨.hbm, 342, rfl⟩
abbrev main_v320 : Ref sig .tc := ⟨.hbm, 343, rfl⟩
abbrev main_v321 : Ref sig .tc := ⟨.hbm, 344, rfl⟩
abbrev main_v322 : Ref sig .tc := ⟨.hbm, 345, rfl⟩
abbrev main_v323 : Ref sig .tc := ⟨.hbm, 346, rfl⟩
abbrev main_v324 : Ref sig .tc := ⟨.hbm, 347, rfl⟩
abbrev main_v325 : Ref sig .tc := ⟨.hbm, 348, rfl⟩
abbrev main_v326 : Ref sig .tc := ⟨.hbm, 349, rfl⟩
abbrev main_v327 : Ref sig .tc := ⟨.hbm, 350, rfl⟩
abbrev main_v328 : Ref sig .tc := ⟨.hbm, 351, rfl⟩
abbrev main_v329 : Ref sig .tc := ⟨.hbm, 352, rfl⟩
abbrev main_cst_11 : Ref sig .tc := ⟨.hbm, 353, rfl⟩
abbrev main_v330 : Ref sig .tc := ⟨.hbm, 354, rfl⟩
abbrev main_v331 : Ref sig .tc := ⟨.hbm, 355, rfl⟩
abbrev main_cst_12 : Ref sig .tc := ⟨.hbm, 356, rfl⟩
abbrev main_v332 : Ref sig .tc := ⟨.hbm, 357, rfl⟩
abbrev main_v333 : Ref sig .tc := ⟨.hbm, 358, rfl⟩
abbrev main_v334 : Ref sig .tc := ⟨.hbm, 359, rfl⟩
abbrev main_v335 : Ref sig .tc := ⟨.hbm, 360, rfl⟩
abbrev main_v336 : Ref sig .tc := ⟨.hbm, 361, rfl⟩
abbrev main_cst_13 : Ref sig .tc := ⟨.hbm, 362, rfl⟩
abbrev main_v337 : Ref sig .tc := ⟨.hbm, 363, rfl⟩
abbrev main_v338 : Ref sig .tc := ⟨.hbm, 364, rfl⟩
abbrev main_cst_14 : Ref sig .tc := ⟨.hbm, 365, rfl⟩
abbrev main_v339 : Ref sig .tc := ⟨.hbm, 366, rfl⟩
abbrev main_v340 : Ref sig .tc := ⟨.hbm, 367, rfl⟩
abbrev main_v341 : Ref sig .tc := ⟨.hbm, 368, rfl⟩
abbrev main_v342 : Ref sig .tc := ⟨.hbm, 369, rfl⟩
abbrev main_cst_15 : Ref sig .tc := ⟨.hbm, 370, rfl⟩
abbrev main_v343 : Ref sig .tc := ⟨.hbm, 371, rfl⟩
abbrev main_v344 : Ref sig .tc := ⟨.hbm, 372, rfl⟩
abbrev main_v345 : Ref sig .tc := ⟨.hbm, 373, rfl⟩
abbrev main_v346 : Ref sig .tc := ⟨.hbm, 374, rfl⟩
abbrev main_v347 : Ref sig .tc := ⟨.hbm, 375, rfl⟩
abbrev main_v348 : Ref sig .tc := ⟨.hbm, 376, rfl⟩
abbrev main_v349 : Ref sig .tc := ⟨.hbm, 377, rfl⟩
abbrev main_v350 : Ref sig .tc := ⟨.hbm, 378, rfl⟩
abbrev main_v351 : Ref sig .tc := ⟨.hbm, 379, rfl⟩
abbrev main_v352 : Ref sig .tc := ⟨.hbm, 380, rfl⟩
abbrev main_v353 : Ref sig .tc := ⟨.hbm, 381, rfl⟩
abbrev main_call1_v0 : Ref sig .tc := ⟨.hbm, 382, rfl⟩
abbrev main_call1_v1 : Ref sig .tc := ⟨.hbm, 383, rfl⟩
abbrev main_call1_cst : Ref sig .tc := ⟨.hbm, 384, rfl⟩
abbrev main_call1_v2 : Ref sig .tc := ⟨.hbm, 385, rfl⟩
abbrev main_call1_v3 : Ref sig .tc := ⟨.hbm, 386, rfl⟩
abbrev main_call1_cst_0 : Ref sig .tc := ⟨.hbm, 387, rfl⟩
abbrev main_call1_v4 : Ref sig .tc := ⟨.hbm, 388, rfl⟩
abbrev main_call1_v5 : Ref sig .tc := ⟨.hbm, 389, rfl⟩
abbrev main_v354 : Ref sig .tc := ⟨.hbm, 390, rfl⟩
abbrev main_v355 : Ref sig .tc := ⟨.hbm, 391, rfl⟩
abbrev main_v356 : Ref sig .tc := ⟨.hbm, 392, rfl⟩
abbrev main_v357 : Ref sig .tc := ⟨.hbm, 393, rfl⟩

abbrev nD : Nat := 1
abbrev τ : Topo := Topo.v7x

variable {F : FTy → Type} [FloatOps F]
-- ==== Mod.lean ====
abbrev S16x2048 : Shape := ⟨2, ![16, 2048]⟩
abbrev S2048x12288 : Shape := ⟨2, ![2048, 12288]⟩
abbrev S12288 : Shape := ⟨1, ![12288]⟩
abbrev S2048x5120 : Shape := ⟨2, ![2048, 5120]⟩
abbrev S1x12288 : Shape := ⟨2, ![1, 12288]⟩
abbrev S16x12288 : Shape := ⟨2, ![16, 12288]⟩
abbrev S2048x768 : Shape := ⟨2, ![2048, 768]⟩
abbrev S1x768 : Shape := ⟨2, ![1, 768]⟩
abbrev S128x5120 : Shape := ⟨2, ![128, 5120]⟩
abbrev S16x768 : Shape := ⟨2, ![16, 768]⟩

abbrev nBuf : Space → Nat
  | .hbm => 7
  | .vmem => 11
  | .smem => 0
  | _ => 0

abbrev bufTy : (tb : Table) → Fin (tcTables nBuf tb) → BufTy
  | .hbm, ⟨0, _⟩ => ⟨S16x2048, .f32⟩
  | .hbm, ⟨1, _⟩ => ⟨S2048x12288, .f32⟩
  | .hbm, ⟨2, _⟩ => ⟨S12288, .f32⟩
  | .hbm, ⟨3, _⟩ => ⟨S2048x5120, .f32⟩
  | .hbm, ⟨4, _⟩ => ⟨S1x12288, .f32⟩
  | .hbm, ⟨5, _⟩ => ⟨S16x12288, .f32⟩
  | .hbm, ⟨6, _⟩ => ⟨S2048x5120, .bf16⟩
  | .local _ .vmem, ⟨0, _⟩ => ⟨S16x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S128x5120, .f32⟩
  | .local _ .vmem, ⟨6, _⟩ => ⟨S128x5120, .f32⟩
  | .local _ .vmem, ⟨7, _⟩ => ⟨S16x768, .f32⟩
  | .local _ .vmem, ⟨8, _⟩ => ⟨S16x768, .f32⟩
  | .local _ .vmem, ⟨9, _⟩ => ⟨S128x5120, .bf16⟩
  | .local _ .vmem, ⟨10, _⟩ => ⟨S128x5120, .bf16⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ModRefIdeal.lean ====
abbrev S16x2048 : Shape := ⟨2, ![16, 2048]⟩
abbrev S2048x12288 : Shape := ⟨2, ![2048, 12288]⟩
abbrev S12288 : Shape := ⟨1, ![12288]⟩
abbrev S2048x5120 : Shape := ⟨2, ![2048, 5120]⟩
abbrev S_ : Shape := ⟨0, ![]⟩
abbrev S16x12288 : Shape := ⟨2, ![16, 12288]⟩
abbrev S1x12288 : Shape := ⟨2, ![1, 12288]⟩

abbrev nBuf : Space → Nat
  | .hbm => 18
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x12288, .f32⟩
  | .hbm, ⟨2, _⟩ => ⟨S12288, .f32⟩
  | .hbm, ⟨3, _⟩ => ⟨S2048x5120, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x12288, .f32⟩
  | .hbm, ⟨14, _⟩ => ⟨S1x12288, .f32⟩
  | .hbm, ⟨15, _⟩ => ⟨S16x12288, .f32⟩
  | .hbm, ⟨16, _⟩ => ⟨S16x12288, .f32⟩
  | .hbm, ⟨17, _⟩ => ⟨S2048x5120, .bf16⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Proof.TailStages.lean ====
/-
The tail of the block, stage by stage: what each of the three calls leaves in its output arrays, as the reference's own
operations over the arrays the call reads.
-/
module

public import proofs.«01_k».proof.Proof.Gen.TailIdeal.Frame
public import proofs.«01_k».proof.Proof.Gen.TailRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.TailRefIdeal.Stage

open Cert.TailRefIdeal Cert.TailRefIdeal.Gen Cert.TailRefIdeal.Value

/-- The heads' rows and the convolution's rows side by side. -/
def joined (a b : FVec Ideal S32768x1024 .bf16) : FVec Ideal S16x2048x2048 .f32 :=
  fn_main_v8 (F := Ideal) (extf .f32 (shapeCast S16x2048x1024 a shapeCasts_S32768x1024_S16x2048x1024) bitsLt_bf16_f32)
    (extf .f32 (shapeCast S16x2048x1024 b shapeCasts_S32768x1024_S16x2048x1024) bitsLt_bf16_f32)

/-- The residual stream after token mixing: the gated product of the joined heads and convolution channels is added. -/
def mix (a b : FVec Ideal S32768x1024 .bf16) (w : FVec Ideal S2048x2048 .bf16) (x : FVec Ideal S16x2048x2048 .f32)
    (gt : FVec Ideal S16x1x2048 .f32) : FVec Ideal S16x2048x2048 .f32 :=
  addf x (mulf (broadcastInDim S16x2048x2048 ![0, 1, 2] bcast_S16x1x2048_S16x2048x2048_0_1_2 gt)
    (Host.dotGeneral dot_S16x2048x2048_S2048x2048_S16x2048x2048_2_0_01_1_n_n none
      (joined a b)
      (extf .f32 w bitsLt_bf16_f32)))

/-- One row's factor of the root-mean-square normalisation. -/
def rms (h : FVec Ideal S16x2048x2048 .f32) : FVec Ideal S16x2048x1 .f32 :=
  Host.rsqrt (addf (Host.divf (broadcastInDim S16x2048x1 ![0, 1] bcast_S16x2048_S16x2048x1_0_1
      (Host.reduceAdd (mulf h h) (constant S_ .f32 0x00000000#32) reducesTo_S16x2048x2048_S16x2048_d2 h_S_))
      (broadcastInDim S16x2048x1 ![] bcast_S_S16x2048x1 (constant S_ .f32 0x45000000#32)))
    (broadcastInDim S16x2048x1 ![] bcast_S_S16x2048x1 (constant S_ .f32 0x358637BD#32)))

/-- The root-mean-square normalisation with its gain. -/
def rmsn (h : FVec Ideal S16x2048x2048 .f32) (g : FVec Ideal S1x1x2048 .f32) : FVec Ideal S16x2048x2048 .f32 :=
  mulf (mulf h (broadcastInDim S16x2048x2048 ![0, 1, 2] bcast_S16x2048x1_S16x2048x2048_0_1_2 (rms h)))
    (broadcastInDim S16x2048x2048 ![0, 1, 2] bcast_S1x1x2048_S16x2048x2048_0_1_2 g)

/-- The modulated input of the feed-forward layer. -/
def modu (h : FVec Ideal S16x2048x2048 .f32) (g : FVec Ideal S1x1x2048 .f32) (sh sc : FVec Ideal S16x1x2048 .f32) :
    FVec Ideal S16x2048x2048 .f32 :=
  addf (mulf (rmsn h g) (broadcastInDim S16x2048x2048 ![0, 1, 2] bcast_S16x1x2048_S16x2048x2048_0_1_2
      (addf (broadcastInDim S16x1x2048 ![] bcast_S_S16x1x2048 (constant S_ .f32 0x3F800000#32)) sc)))
    (broadcastInDim S16x2048x2048 ![0, 1, 2] bcast_S16x1x2048_S16x2048x2048_0_1_2 sh)

/-- The gated activation. -/
def act (u : FVec Ideal S16x2048x2048 .f32) (wg wu : FVec Ideal S2048x5632 .bf16) : FVec Ideal S16x2048x5632 .f32 :=
  mulf (mulf (Host.dotGeneral dot_S16x2048x2048_S2048x5632_S16x2048x5632_2_0_01_1_n_n none u (extf .f32 wg bitsLt_bf16_f32))
      (Host.divf (broadcastInDim S16x2048x5632 ![] bcast_S_S16x2048x5632 (constant S_ .f32 0x3F800000#32))
        (addf (broadcastInDim S16x2048x5632 ![] bcast_S_S16x2048x5632 (constant S_ .f32 0x3F800000#32))
          (Host.exp (Host.negf (Host.dotGeneral dot_S16x2048x2048_S2048x5632_S16x2048x5632_2_0_01_1_n_n none u
            (extf .f32 wg bitsLt_bf16_f32)))))))
    (Host.dotGeneral dot_S16x2048x2048_S2048x5632_S16x2048x5632_2_0_01_1_n_n none u (extf .f32 wu bitsLt_bf16_f32))

/-- The residual stream after the feed-forward layer. -/
def res (h : FVec Ideal S16x2048x2048 .f32) (a : FVec Ideal S16x2048x5632 .f32) (wd : FVec Ideal S5632x2048 .bf16)
    (gt : FVec Ideal S16x1x2048 .f32) : FVec Ideal S16x2048x2048 .f32 :=
  addf h (mulf (broadcastInDim S16x2048x2048 ![0, 1, 2] bcast_S16x1x2048_S16x2048x2048_0_1_2 gt)
    (Host.dotGeneral dot_S16x2048x5632_S5632x2048_S16x2048x2048_2_0_01_1_n_n none a (extf .f32 wd bitsLt_bf16_f32)))

/-- The reference's result is the stages composed. -/
theorem res_eq (m : (ℓ : Loc nD τ sig) → Buf (Elt Ideal) ℓ) (c : Dev nD) :
    res_out0 m c =
      (let h := mix (m ((c.tc : Thread nD τ).loc main_arg0)) (m ((c.tc : Thread nD τ).loc main_arg1))
          (m ((c.tc : Thread nD τ).loc main_arg2)) (m ((c.tc : Thread nD τ).loc main_arg3))
          (broadcastInDim S16x1x2048 ![0, 2] bcast_S16x2048_S16x1x2048_0_2 (m ((c.tc : Thread nD τ).loc main_arg4)))
       rmsn (res h (act (modu h (broadcastInDim S1x1x2048 ![2] bcast_S2048_S1x1x2048_2 (m ((c.tc : Thread nD τ).loc main_arg5)))
            (broadcastInDim S16x1x2048 ![0, 2] bcast_S16x2048_S16x1x2048_0_2 (m ((c.tc : Thread nD τ).loc main_arg6)))
            (broadcastInDim S16x1x2048 ![0, 2] bcast_S16x2048_S16x1x2048_0_2 (m ((c.tc : Thread nD τ).loc main_arg7))))
            (m ((c.tc : Thread nD τ).loc main_arg8)) (m ((c.tc : Thread nD τ).loc main_arg9)))
          (m ((c.tc : Thread nD τ).loc main_arg10))
          (broadcastInDim S16x1x2048 ![0, 2] bcast_S16x2048_S16x1x2048_0_2 (m ((c.tc : Thread nD τ).loc main_arg11))))
        (broadcastInDim S1x1x2048 ![2] bcast_S2048_S1x1x2048_2 (m ((c.tc : Thread nD τ).loc main_arg12)))) := by
  unfold res_out0 res_main_v56
  rfl

end Cert.TailRefIdeal.Stage

namespace Cert.TailIdeal.Stage

open Cert.TailIdeal Cert.TailIdeal.Gen
open Cert.TailRefIdeal.Stage (mix rms rmsn modu act res)

variable (V : (c : Dev nD) → (b : Ref sig .tc) → Buf (Elt Ideal) ((c : Thread nD τ).loc b))

theorem casts_gain : Shape.ShapeCasts S1x2048 S1x1x2048 := by decide
theorem casts_rows : Shape.ShapeCasts Cert.TailRefIdeal.S16x2048x2048 S32768x2048 := by decide
theorem casts_ff : Shape.ShapeCasts Cert.TailRefIdeal.S16x2048x5632 S32768x5632 := by decide
theorem casts_back : Shape.ShapeCasts S32768x2048 Cert.TailRefIdeal.S16x2048x2048 := by decide
theorem casts_ff_back : Shape.ShapeCasts S32768x5632 Cert.TailRefIdeal.S16x2048x5632 := by decide

/-- The windows' block indices at a point of the first call's grid. -/
theorem idx0 : ∀ t : Fin cfg0.N, win0_0.index t = ![t.val, 0] ∧ win0_1.index t = ![t.val, 0] ∧ win0_2.index t = ![0, 0]
    ∧ win0_3.index t = ![t.val / 4, t.val % 4, 0] ∧ win0_4.index t = ![t.val / 4, 0, 0] ∧ win0_5.index t = ![0, 0]
    ∧ win0_6.index t = ![t.val / 4, 0, 0] ∧ win0_7.index t = ![t.val / 4, 0, 0] ∧ win0_8.index t = ![t.val, 0]
    ∧ win0_9.index t = ![t.val, 0] :=
  (by decide +kernel : ∀ t : Fin grid0.N, _)

/-- The windows' block indices at a point of the second call's grid. -/
theorem idx1 : ∀ t : Fin cfg1.N, win1_0.index t = ![t.val / 11, 0] ∧ win1_1.index t = ![0, t.val % 11]
    ∧ win1_2.index t = ![0, t.val % 11] ∧ win1_3.index t = ![t.val / 11, t.val % 11] :=
  (by decide +kernel : ∀ t : Fin grid1.N, _)

/-- The windows' block indices at a point of the third call's grid. -/
theorem idx2 : ∀ t : Fin cfg2.N, win2_0.index t = ![t.val, 0] ∧ win2_1.index t = ![0, 0] ∧ win2_2.index t = ![t.val, 0]
    ∧ win2_3.index t = ![t.val / 4, 0, 0] ∧ win2_4.index t = ![0, 0] ∧ win2_5.index t = ![t.val / 4, t.val % 4, 0] :=
  (by decide +kernel : ∀ t : Fin grid2.N, _)

end Cert.TailIdeal.Stage
-- ==== Proof.TailMix.lean ====
/-
What the first call of the tail leaves in its two output arrays.
-/
module

public import proofs.«01_k».proof.Proof.TailStages

@[expose] public section

set_option maxRecDepth 16384

noncomputable section

open Idealize.ShloMosaic Idealize.ShloMosaic.TcCoe Idealize.SL.Sem
open Idealize.ShloMosaic.Pipeline (Dat)

namespace Cert.TailIdeal.Stage

open Cert.TailIdeal Cert.TailIdeal.Gen
open Cert.TailRefIdeal.Stage (joined mix rms rmsn modu act res)

variable (V : (c : Dev nD) → (b : Ref sig .tc) → Buf (Elt Ideal) ((c : Thread nD τ).loc b))

/-- The first call's first output: the residual stream after token mixing. -/
theorem mixed (c : Dev nD) : (dat0 V c).arrAt 8 cfg0.N = shapeCast S32768x2048
    (mix (V c main_arg0) (V c main_arg1) (V c main_arg2) (V c main_arg3) (V c main_v0)) casts_rows := by
  refine (dat0 V c).arrAt_eq_of_covers 8 _ (by decide +kernel) fun t _ y => ?_
  blk_simp
  rw [after0_8]; frame_out
  pointwise [k0_pay2, mix, joined, Cert.TailRefIdeal.Value.fn_main_v8]
  blk_point [iblk0, idx0 t]

set_option maxHeartbeats 1600000 in
/-- The first call's second output: the modulated input of the feed-forward layer. -/
theorem modulated (c : Dev nD) : (dat0 V c).arrAt 9 cfg0.N = shapeCast S32768x2048
    (modu (mix (V c main_arg0) (V c main_arg1) (V c main_arg2) (V c main_arg3) (V c main_v0))
      (shapeCast Cert.TailRefIdeal.S1x1x2048 (V c main_v4) casts_gain) (V c main_v1) (V c main_v2)) casts_rows := by
  refine (dat0 V c).arrAt_eq_of_covers 9 _ (by decide +kernel) fun t _ y => ?_
  blk_simp
  rw [after0_9]; frame_out
  pointwise [k0_pay1, k0_pay2, k0_pay3, k0_pay4, k0_pay5, k0_pay6, modu, rmsn, rms, mix, joined, Cert.TailRefIdeal.Value.fn_main_v8]
  blk_point [iblk0, idx0 t]

end Cert.TailIdeal.Stage
-- ==== Proof.TailFfn.lean ====
/-
What the second and the third call of the tail leave in their output arrays.
-/
module

public import proofs.«01_k».proof.Proof.TailStages

@[expose] public section

set_option maxRecDepth 16384

noncomputable section

open Idealize.ShloMosaic Idealize.ShloMosaic.TcCoe Idealize.SL.Sem
open Idealize.ShloMosaic.Pipeline (Dat)

namespace Cert.TailIdeal.Stage

open Cert.TailIdeal Cert.TailIdeal.Gen
open Cert.TailRefIdeal.Stage (joined mix rms rmsn modu act res)

variable (V : (c : Dev nD) → (b : Ref sig .tc) → Buf (Elt Ideal) ((c : Thread nD τ).loc b))

/-- Rows of the stream, by sequence and position. -/
def stream (u : FVec Ideal S32768x2048 .f32) : FVec Ideal Cert.TailRefIdeal.S16x2048x2048 .f32 :=
  shapeCast Cert.TailRefIdeal.S16x2048x2048 u casts_back

/-- Rows of the hidden layer, by sequence and position. -/
def hidden (u : FVec Ideal S32768x5632 .f32) : FVec Ideal Cert.TailRefIdeal.S16x2048x5632 .f32 :=
  shapeCast Cert.TailRefIdeal.S16x2048x5632 u casts_ff_back

set_option maxHeartbeats 1600000 in
/-- The second call's output: the gated activation. -/
theorem activated (c : Dev nD) : (dat1 V c).arrAt 3 cfg1.N = shapeCast S32768x5632
    (act (stream (extf .f32 (V c main_v5_1 : FVec Ideal S32768x2048 .bf16) bitsLt_bf16_f32)) (V c main_arg8) (V c main_arg9)) casts_ff := by
  refine (dat1 V c).arrAt_eq_of_covers 3 _ (by decide +kernel) fun t _ y => ?_
  blk_simp
  rw [after1_3]; frame_out
  pointwise [k1_pay1, act, stream, Ideal.logistic]
  blk_point [iblk1, idx1 t]

set_option maxHeartbeats 1600000 in
/-- The third call's output: the feed-forward product added to the stream, normalised. -/
theorem finished (c : Dev nD) : (dat2 V c).arrAt 5 cfg2.N =
    rmsn (res (stream (V c main_v5_0))
      (hidden (extf .f32 (V c main_v6 : FVec Ideal S32768x5632 .bf16) bitsLt_bf16_f32)) (V c main_arg10) (V c main_v3))
      (shapeCast Cert.TailRefIdeal.S1x1x2048 (V c main_v7) casts_gain) := by
  refine (dat2 V c).arrAt_eq_of_covers 5 _ (by decide +kernel) fun t _ y => ?_
  blk_simp
  rw [after2_5]; frame_out
  pointwise [k2_pay1, rmsn, rms, res, stream, hidden]
  blk_point [iblk2, idx2 t]

end Cert.TailIdeal.Stage
-- ==== Proof.TailRun.lean ====
/-
The tail's three calls one after another: what each finds in memory, what the last one leaves, and the claim
that it is the reference's result.
-/
module

public import proofs.«01_k».proof.Defs
public import proofs.«01_k».proof.Proof.TailMix
public import proofs.«01_k».proof.Proof.TailFfn

@[expose] public section

set_option maxRecDepth 16384

noncomputable section

open Idealize.ShloMosaic Idealize.ShloMosaic.TcCoe Idealize.SL Idealize.SL.RA Idealize.SL.BI Idealize.SL.Sem
open scoped Idealize.SL.BI
open Idealize.ShloMosaic.Rounds
open Idealize.SL.BI.BIBase Idealize.SL.BI.Laws Idealize.SL.ProofMode
open Idealize.ShloMosaic.Pipeline (Dat cellOf)

namespace Cert.TailIdeal.Stage

open Cert.TailIdeal Cert.TailIdeal.Gen
open Cert.TailRefIdeal.Stage (joined mix rms rmsn modu act res)

variable (m : (ℓ : Loc nD τ sig) → Buf (Elt Ideal) ℓ) (ρ : Dev nD → PrngReg)

/-! ## Reshapes that only rename positions -/

theorem stream_rows (x : FVec Ideal Cert.TailRefIdeal.S16x2048x2048 .f32) :
    stream (shapeCast S32768x2048 x casts_rows) = x := shapeCast_shapeCast x casts_rows casts_back

theorem hidden_rows (x : FVec Ideal Cert.TailRefIdeal.S16x2048x5632 .f32) :
    hidden (shapeCast S32768x5632 x casts_ff) = x := shapeCast_shapeCast x casts_ff casts_ff_back

/-- A row per sequence, given a unit axis, is the reference's broadcast of it. -/
theorem perSeq (x : FVec Ideal S16x2048 .f32) :
    shapeCast S16x1x2048 x shapeCasts_S16x2048_S16x1x2048 =
      broadcastInDim Cert.TailRefIdeal.S16x1x2048 ![0, 2] Cert.TailRefIdeal.Gen.bcast_S16x2048_S16x1x2048_0_2 x := by
  funext i
  pointwise

/-- A gain, given two unit axes, is the reference's broadcast of it. -/
theorem gain (x : FVec Ideal S2048 .f32) :
    shapeCast Cert.TailRefIdeal.S1x1x2048 (shapeCast S1x2048 x shapeCasts_S2048_S1x2048) casts_gain =
      broadcastInDim Cert.TailRefIdeal.S1x1x2048 ![2] Cert.TailRefIdeal.Gen.bcast_S2048_S1x1x2048_2 x := by
  funext i
  pointwise

/-! ## What the calls find -/

theorem entry_v0 (c : Dev nD) : V1 m ρ c main_v0 = shapeCast S16x1x2048 (m ((c.tc : Thread nD τ).loc main_arg4)) shapeCasts_S16x2048_S16x1x2048 := by
  unfold_abbrev_sides; after_results; rfl
theorem entry_v1 (c : Dev nD) : V1 m ρ c main_v1 = shapeCast S16x1x2048 (m ((c.tc : Thread nD τ).loc main_arg6)) shapeCasts_S16x2048_S16x1x2048 := by
  unfold_abbrev_sides; after_results; rfl
theorem entry_v2 (c : Dev nD) : V1 m ρ c main_v2 = shapeCast S16x1x2048 (m ((c.tc : Thread nD τ).loc main_arg7)) shapeCasts_S16x2048_S16x1x2048 := by
  unfold_abbrev_sides; after_results; rfl
theorem entry_v3 (c : Dev nD) : V1 m ρ c main_v3 = shapeCast S16x1x2048 (m ((c.tc : Thread nD τ).loc main_arg11)) shapeCasts_S16x2048_S16x1x2048 := by
  unfold_abbrev_sides; after_results; rfl
theorem entry_v4 (c : Dev nD) : V1 m ρ c main_v4 = shapeCast S1x2048 (m ((c.tc : Thread nD τ).loc main_arg5)) shapeCasts_S2048_S1x2048 := by
  unfold_abbrev_sides; after_results; rfl
theorem entry_v7 (c : Dev nD) : V4 m ρ c main_v7 = shapeCast S1x2048 (m ((c.tc : Thread nD τ).loc main_arg12)) shapeCasts_S2048_S1x2048 := by
  have h : V4 m ρ c main_v7 = shapeCast S1x2048 (W3 m ρ c (Proc.devRef .tc main_arg12)) shapeCasts_S2048_S1x2048 := by
    unfold_abbrev_sides; after_results; rfl
  rw [h, W3_args m ρ c main_arg12 (by decide)]

/-- The first residual sum, as the first call leaves it. -/
def mixOf (c : Dev nD) : FVec Ideal Cert.TailRefIdeal.S16x2048x2048 .f32 :=
  mix (m ((c.tc : Thread nD τ).loc main_arg0)) (m ((c.tc : Thread nD τ).loc main_arg1)) (m ((c.tc : Thread nD τ).loc main_arg2))
    (m ((c.tc : Thread nD τ).loc main_arg3))
    (broadcastInDim Cert.TailRefIdeal.S16x1x2048 ![0, 2] Cert.TailRefIdeal.Gen.bcast_S16x2048_S16x1x2048_0_2 (m ((c.tc : Thread nD τ).loc main_arg4)))

/-- The modulated stream, as the first call leaves it. -/
def moduOf (c : Dev nD) : FVec Ideal Cert.TailRefIdeal.S16x2048x2048 .f32 :=
  modu (mixOf m c)
    (broadcastInDim Cert.TailRefIdeal.S1x1x2048 ![2] Cert.TailRefIdeal.Gen.bcast_S2048_S1x1x2048_2 (m ((c.tc : Thread nD τ).loc main_arg5)))
    (broadcastInDim Cert.TailRefIdeal.S16x1x2048 ![0, 2] Cert.TailRefIdeal.Gen.bcast_S16x2048_S16x1x2048_0_2 (m ((c.tc : Thread nD τ).loc main_arg6)))
    (broadcastInDim Cert.TailRefIdeal.S16x1x2048 ![0, 2] Cert.TailRefIdeal.Gen.bcast_S16x2048_S16x1x2048_0_2 (m ((c.tc : Thread nD τ).loc main_arg7)))

theorem first_h (c : Dev nD) : V2 m ρ c main_v5_0 = shapeCast S32768x2048 (mixOf m c) casts_rows := by
  rw [show V2 m ρ c main_v5_0 = (dat0 (V1 m ρ) c).arrAt 8 cfg0.N from W2_arr m ρ c 8, mixed, entry_v0, perSeq]
  rw [show V1 m ρ c main_arg0 = _ from W1_args m ρ c main_arg0 (by decide), show V1 m ρ c main_arg1 = _ from W1_args m ρ c main_arg1 (by decide),
    show V1 m ρ c main_arg2 = _ from W1_args m ρ c main_arg2 (by decide), show V1 m ρ c main_arg3 = _ from W1_args m ρ c main_arg3 (by decide)]
  rfl

theorem first_u (c : Dev nD) : V2 m ρ c main_v5_1 = shapeCast S32768x2048 (moduOf m c) casts_rows := by
  rw [show V2 m ρ c main_v5_1 = (dat0 (V1 m ρ) c).arrAt 9 cfg0.N from W2_arr m ρ c 9, modulated, entry_v0, entry_v1, entry_v2, entry_v4,
    perSeq, perSeq, perSeq, gain]
  rw [show V1 m ρ c main_arg0 = _ from W1_args m ρ c main_arg0 (by decide), show V1 m ρ c main_arg1 = _ from W1_args m ρ c main_arg1 (by decide),
    show V1 m ρ c main_arg2 = _ from W1_args m ρ c main_arg2 (by decide), show V1 m ρ c main_arg3 = _ from W1_args m ρ c main_arg3 (by decide)]
  rfl

/-- The hidden layer, as the second call leaves it. -/
theorem second (c : Dev nD) : V3 m ρ c main_v6 = shapeCast S32768x5632
    (act (moduOf m c) (m ((c.tc : Thread nD τ).loc main_arg8)) (m ((c.tc : Thread nD τ).loc main_arg9))) casts_ff := by
  rw [show V3 m ρ c main_v6 = (dat1 (V2 m ρ) c).arrAt 3 cfg1.N from W3_arr m ρ c 3, activated, first_u]
  rw [show V2 m ρ c main_arg8 = _ from W2_args m ρ c main_arg8 (by decide), show V2 m ρ c main_arg9 = _ from W2_args m ρ c main_arg9 (by decide)]
  exact congrArg (fun u => shapeCast S32768x5632 (act u _ _) casts_ff) (stream_rows (moduOf m c))

/-- The result, as the third call leaves it. -/
theorem third (c : Dev nD) : V5 m ρ c main_v8 =
    rmsn (res (mixOf m c) (act (moduOf m c) (m ((c.tc : Thread nD τ).loc main_arg8)) (m ((c.tc : Thread nD τ).loc main_arg9)))
        (m ((c.tc : Thread nD τ).loc main_arg10))
        (broadcastInDim Cert.TailRefIdeal.S16x1x2048 ![0, 2] Cert.TailRefIdeal.Gen.bcast_S16x2048_S16x1x2048_0_2 (m ((c.tc : Thread nD τ).loc main_arg11))))
      (broadcastInDim Cert.TailRefIdeal.S1x1x2048 ![2] Cert.TailRefIdeal.Gen.bcast_S2048_S1x1x2048_2 (m ((c.tc : Thread nD τ).loc main_arg12))) := by
  have h0 : V4 m ρ c main_v5_0 = shapeCast S32768x2048 (mixOf m c) casts_rows :=
    (W4_of m ρ c main_v5_0 (by decide)).trans ((W3_of_ne m ρ c main_v5_0 (by decide)).trans (first_h m ρ c))
  have h6 : V4 m ρ c main_v6 = _ := (W4_of m ρ c main_v6 (by decide)).trans (second m ρ c)
  have h3 : V4 m ρ c main_v3 = _ :=
    (W4_of m ρ c main_v3 (by decide)).trans ((W3_of_ne m ρ c main_v3 (by decide)).trans
      ((W2_of_ne m ρ c main_v3 (by decide)).trans (entry_v3 m ρ c)))
  rw [show V5 m ρ c main_v8 = (dat2 (V4 m ρ) c).arrAt 5 cfg2.N from W5_arr m ρ c 5, finished, entry_v7, gain, h0, h6, h3, perSeq,
    stream_rows, show V4 m ρ c main_arg10 = _ from W4_args m ρ c main_arg10 (by decide)]
  exact congrArg (fun u => rmsn (res _ u _ _) _) (hidden_rows (act (moduOf m c) _ _))

/-! ## The run, and the claim -/

local notation "𝕄" => MT nD τ sig Unit (Elt Ideal) ℕ (UR sig nD τ) ℕ

set_option backward.isDefEq.respectTransparency.types false in
/-- The tail's run: the result is what the third call leaves, and the arguments are as launched. -/
theorem run : θ_run defs (onTc (τ := τ) (main (F := Ideal))) ⟨m, fun _ => 0, ρ⟩ (fun r => ∀ c : Dev nD,
      r.2.mem ((c.tc : Thread nD τ).loc main_v8) = V5 m ρ c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

/-- The tail computes the reference's result, element by element over the extended reals. -/
theorem algebraic : Cert.algebraic_TailIdeal_TailRefIdeal (hTailIdeal := Cert.TailIdeal.Gen.facts) (hTailRefIdeal := Cert.TailRefIdeal.Gen.facts) := by
  pair_intro
  · run_from Cert.TailIdeal.Stage.run m g
  · run_from Cert.TailRefIdeal.Value.run m' g'
    have e := Cert.TailRefIdeal.Stage.res_eq m' c
    obtain ⟨h0, h1, h2, h3, h4, h5, h6, h7, h8, h9, h10, h11, h12⟩ := hagree c
    rw [h0, h1, h2, h3, h4, h5, h6, h7, h8, h9, h10, h11, h12] at e
    exact e.trans (third m g c).symm

end Cert.TailIdeal.Stage
-- ==== Proof.InprojLists.lean ====
/-
What the input projection's body stores in its scratch, as lists of pieces given by their index: the window of the gated
rows with the rows before them, its seven shifts per strip of channels, and the sums of products chunk by chunk.
-/
module

public import proofs.«01_k».proof.Proof.Gen.InprojIdeal.Frame.Runs
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.InprojIdeal.Stage

open Cert.InprojIdeal Cert.InprojIdeal.Gen

section Lists

variable {Val : EltTy → Type} [∀ e, Nonempty (Val e)] {s : Shape} {e : EltTy}

/-- The first `k` of `N` numbered pieces, the last stored first. -/
def upto {N : ℕ} (f : Fin N → View.Piece Val s e) : (k : ℕ) → k ≤ N → List (View.Piece Val s e)
  | 0, _ => []
  | k + 1, h => f ⟨k, h⟩ :: upto f k (Nat.le_of_succ_le h)

/-- Where the piece holds the element `y`, it holds `v` there. -/
def Holds (p : View.Piece Val s e) (y : s.Idx) (v : Val e) : Prop := ∀ x, p.1.emb x = y → p.2 x = v

/-- A block of unit strides holds `v` at `y` if its value does at every index placed there. -/
theorem holds_unit {y : s.Idx} {v : Val e} {off size : Fin s.rank → ℕ} (inb) (w : (⟨s.rank, size⟩ : Shape).Idx → Val e)
    (h : ∀ x : (⟨s.rank, size⟩ : Shape).Idx, (∀ a, (y a : ℕ) = off a + (x a : ℕ)) → w x = v) :
    Holds (Val := Val) (s := s) (e := e) ⟨Rect.unit (s := s) off size inb, w⟩ y v := fun x hx => h x fun a => by
  subst hx
  show ((Rect.unit (s := s) off size inb).emb x a : ℕ) = _
  rw [Rect.emb_apply, Rect.off_unit, Rect.stride_unit, Nat.one_mul]

/-- A block of unit strides holds the elements between its corners. -/
theorem mem_unit {y : s.Idx} {off size : Fin s.rank → ℕ} (inb) (w : (⟨s.rank, size⟩ : Shape).Idx → Val e)
    (h : ∀ a, off a ≤ (y a : ℕ) ∧ (y a : ℕ) < off a + size a) :
    y ∈ (⟨Rect.unit (s := s) off size inb, w⟩ : View.Piece Val s e).1.set := (Rect.mem_set_unit (inb := inb)).mpr h

/-- The three coordinates. -/
theorem all3 {P : Fin 3 → Prop} (h0 : P 0) (h1 : P 1) (h2 : P 2) : ∀ a, P a
  | 0 => h0
  | 1 => h1
  | 2 => h2

/-- An element held by piece `i` and, where a later piece holds it too, the same there, is what piece `i` holds. -/
theorem canon_upto {N : ℕ} (f : Fin N → View.Piece Val s e) (y : s.Idx) (v : Val e) (i : Fin N) (hy : y ∈ (f i).1.set)
    : ∀ (k : ℕ) (h : k ≤ N), i.val < k → (∀ j : Fin N, i.val ≤ j.val → j.val < k → Holds (f j) y v) →
      View.canon (upto f k h) y = v
  | 0, _, hi, _ => absurd hi (Nat.not_lt_zero _)
  | k + 1, h, hi, hv => by
    unfold upto
    by_cases hm : y ∈ (f ⟨k, h⟩).1.set
    · obtain ⟨x, rfl⟩ := (f ⟨k, h⟩).1.exists_idx_of_mem hm
      rw [show (f ⟨k, h⟩).1.idx x = (f ⟨k, h⟩).1.emb x from rfl, View.canon_cons_emb]
      exact hv ⟨k, h⟩ (Nat.le_of_lt_succ hi) (Nat.lt_succ_self k) x rfl
    · rw [View.canon_cons_of_not_mem _ _ hm]
      have hne : i.val ≠ k := fun he => hm (by have : i = ⟨k, h⟩ := Fin.ext he
                                               rw [← this]; exact hy)
      exact canon_upto f y v i hy k _ (by omega) fun j hj hk => hv j hj (by omega)

end Lists

variable {F : FTy → Type} [FloatOps F]

theorem slice_rows {cs : ℕ} (h : cs < 8) : S512x1024.Slices ![0, 128 * cs] S512x128 := by
  interval_cases cs <;> decide

theorem slice_last {cs : ℕ} (h : cs < 8) : S512x1024.Slices ![480, 128 * cs] S32x128 := by
  interval_cases cs <;> decide

theorem inb_halo {cs : ℕ} (h : cs < 8) : ∀ a, (![cs, 0, 0] : Fin 3 → ℕ) a + S1x32x128.size a ≤ S8x32x128.size a := by
  interval_cases cs <;> decide

theorem inb_win_head {cs : ℕ} (h : cs < 8) : ∀ a, (![cs, 0, 0] : Fin 3 → ℕ) a + S1x32x128.size a ≤ S8x544x128.size a := by
  interval_cases cs <;> decide

theorem inb_win_rows {cs : ℕ} (h : cs < 8) : ∀ a, (![cs, 32, 0] : Fin 3 → ℕ) a + S1x512x128.size a ≤ S8x544x128.size a := by
  interval_cases cs <;> decide

theorem inb_win_shift {cs r : ℕ} (h : cs < 8) (hr : r < 7) :
    ∀ a, (![cs, r + 1, 0] : Fin 3 → ℕ) a + S1x536x128.size a ≤ S8x544x128.size a := by
  interval_cases cs <;> interval_cases r <;> decide

theorem inb_shift {b r : ℕ} (h : b < 2) (hr : r < 7) :
    ∀ a, (![b, r, 0, 0] : Fin 4 → ℕ) a + S1x1x536x128.size a ≤ S2x7x544x128.size a := by
  interval_cases b <;> interval_cases r <;> decide

theorem inb_win_tap {cs t : ℕ} (h : cs < 8) (ht : t ≤ 480) :
    ∀ a, (![cs, t, 0] : Fin 3 → ℕ) a + S1x64x128.size a ≤ S8x544x128.size a := fun a => by
  match a with
  | 0 => show cs + 1 ≤ 8; omega
  | 1 => show t + 64 ≤ 544; omega
  | 2 => show 0 + 128 ≤ 128; omega

theorem inb_shift_tap {b r t : ℕ} (h : b < 2) (hr : r < 7) (ht : t ≤ 480) :
    ∀ a, (![b, r, t, 0] : Fin 4 → ℕ) a + S1x1x64x128.size a ≤ S2x7x544x128.size a := fun a => by
  match a with
  | 0 => show b + 1 ≤ 2; omega
  | 1 => show r + 1 ≤ 7; omega
  | 2 => show t + 64 ≤ 544; omega
  | 3 => show 0 + 128 ≤ 128; omega

theorem inb_weight {j cs : ℕ} (hj : j < 31) (h : cs < 8) : ∀ a, (![j, 128 * cs] : Fin 2 → ℕ) a + S1x128.size a ≤ S31x1024.size a := fun a => by
  match a with
  | 0 => show j + 1 ≤ 31; omega
  | 1 => show 128 * cs + 128 ≤ 1024; omega

theorem inb_bias {cs : ℕ} (h : cs < 8) : ∀ a, (![0, 128 * cs] : Fin 2 → ℕ) a + S1x128.size a ≤ S1x1024.size a := by
  interval_cases cs <;> decide

theorem inb_sum {ci cs : ℕ} (hi : ci < 8) (h : cs < 8) : ∀ a, (![64 * ci, 128 * cs] : Fin 2 → ℕ) a + S64x128.size a ≤ S512x1024.size a := fun a => by
  match a with
  | 0 => show 64 * ci + 64 ≤ 512; omega
  | 1 => show 128 * cs + 128 ≤ 1024; omega

/-- What the carried rows' scratch holds: zeros, then strip by strip the last rows of the gated block. -/
def haloPiece (glu : FVec F S512x1024 .f32) (i : Fin 9) : View.Piece (Elt F) S8x32x128 .f32 :=
  match i with
  | ⟨0, _⟩ => ⟨Rect.unit (s := S8x32x128) ![0, 0, 0] S8x32x128.size inb_S8x32x128_S8x32x128_0_0_0, k0_pay2⟩
  | ⟨k + 1, h⟩ => ⟨Rect.unit (s := S8x32x128) ![k, 0, 0] S1x32x128.size (inb_halo (Nat.lt_of_succ_lt_succ h)),
      shapeCast S1x32x128 (extractStridedSlice S32x128 ![480, 128 * k] glu (slice_last (Nat.lt_of_succ_lt_succ h))) shapeCasts_S32x128_S1x32x128⟩

/-- The carried rows of a strip as read where the block is a sequence's first: the strips before it stored over already. -/
def haloFirst (M : Memref sig .tc .vmem S8x32x128 .f32) (glu : FVec F S512x1024 .f32) (cs : Fin 8) : Vec F S1x32x128 .f32 :=
  M.view.readCov (upto (haloPiece glu) (cs.val + 1) (Nat.succ_le_succ (Nat.le_of_lt cs.isLt))) (Rect.unit (s := S8x32x128) ![cs.val, 0, 0] S1x32x128.size (inb_halo cs.isLt)).toLoadRect

/-- The carried rows of a strip as read elsewhere: what the block before left. -/
def haloNext (M : Memref sig .tc .vmem S8x32x128 .f32) (hM : M.IsWhole) (xs : Vec F S8x32x128 .f32) (cs : Fin 8) : Vec F S1x32x128 .f32 :=
  View.readAt (Elt F) M.view (Rect.unit (s := S8x32x128) ![cs.val, 0, 0] S1x32x128.size (inb_halo cs.isLt)).toLoadRect (hM.unread xs)

/-- The window's pieces: per strip the carried rows, then the block's gated rows. -/
def winPiece (H : Fin 8 → Vec F S1x32x128 .f32) (glu : FVec F S512x1024 .f32) (i : Fin 16) : View.Piece (Elt F) S8x544x128 .f32 :=
  have h : i.val / 2 < 8 := by omega
  match i.val % 2 with
  | 0 => ⟨Rect.unit (s := S8x544x128) ![i.val / 2, 0, 0] S1x32x128.size (inb_win_head h),
      shapeCast S1x32x128 (shapeCast S32x128 (H ⟨i.val / 2, h⟩) shapeCasts_S1x32x128_S32x128) shapeCasts_S32x128_S1x32x128⟩
  | _ + 1 => ⟨Rect.unit (s := S8x544x128) ![i.val / 2, 32, 0] S1x512x128.size (inb_win_rows h),
      shapeCast S1x512x128 (extractStridedSlice S512x128 ![0, 128 * (i.val / 2)] glu (slice_rows h)) shapeCasts_S512x128_S1x512x128⟩

/-- The shifts' pieces: strip by strip, the window moved by one to seven rows, in the slot of the strip's parity. -/
def shiftPiece (M : Memref sig .tc .vmem S8x544x128 .f32) (L : List (View.Piece (Elt F) S8x544x128 .f32)) (i : Fin 56) :
    View.Piece (Elt F) S2x7x544x128 .f32 :=
  have h : i.val / 7 < 8 := by omega
  have hb : i.val / 7 % 2 < 2 := by omega
  have hr : i.val % 7 < 7 := by omega
  ⟨Rect.unit (s := S2x7x544x128) ![i.val / 7 % 2, i.val % 7, 0, 0] S1x1x536x128.size (inb_shift hb hr),
    shapeCast S1x1x536x128 (shapeCast S536x128 (M.view.readCov L (Rect.unit (s := S8x544x128) ![i.val / 7, i.val % 7 + 1, 0] S1x536x128.size (inb_win_shift h hr)).toLoadRect)
      shapeCasts_S1x536x128_S536x128) shapeCasts_S536x128_S1x1x536x128⟩

/-- The rows tap `n` of strip `cs` reads for chunk `ci`: from the window where its shift is whole, else from the shifts. -/
def tap (M : Memref sig .tc .vmem S8x544x128 .f32) (L : List (View.Piece (Elt F) S8x544x128 .f32))
    (N : Memref sig .tc .vmem S2x7x544x128 .f32) (S : List (View.Piece (Elt F) S2x7x544x128 .f32))
    (cs ci n : ℕ) (h : cs < 8) (hi : ci < 8) (hn : n < 31) : FVec F S64x128 .f32 :=
  have ht : 64 * ci + (n + 2) / 8 * 8 ≤ 480 := by omega
  have hb : cs % 2 < 2 := by omega
  have hr : (n + 2) % 8 - 1 < 7 := by omega
  match (n + 2) % 8 with
  | 0 => shapeCast S64x128 (M.view.readCov L (Rect.unit (s := S8x544x128) ![cs, 64 * ci + (n + 2) / 8 * 8, 0] S1x64x128.size (inb_win_tap h ht)).toLoadRect)
      shapeCasts_S1x64x128_S64x128
  | _ + 1 => shapeCast S64x128 (N.view.readCov S (Rect.unit (s := S2x7x544x128) ![cs % 2, (n + 2) % 8 - 1, 64 * ci + (n + 2) / 8 * 8, 0] S1x1x64x128.size (inb_shift_tap hb hr ht)).toLoadRect)
      shapeCasts_S1x1x64x128_S64x128

/-- The bias of a strip plus its first `n` taps times their weights. -/
def sums (tap : (n : ℕ) → n < 31 → FVec F S64x128 .f32) (W : Memref sig .tc .vmem S31x1024 .f32) (hW : W.IsWhole) (w : Vec F S31x1024 .f32)
    (B : Memref sig .tc .vmem S1x1024 .f32) (hB : B.IsWhole) (b : Vec F S1x1024 .f32) (cs : ℕ) (h : cs < 8) : (n : ℕ) → n ≤ 31 → FVec F S64x128 .f32
  | 0, _ => broadcastTo S64x128 (shapeCast S1x128 (shapeCast S1x128
      (View.readAt (Elt F) B.view (Rect.unit (s := S1x1024) ![0, 128 * cs] S1x128.size (inb_bias h)).toLoadRect (hB.unread b)) shapeCasts_S1x128_S1x128) shapeCasts_S1x128_S1x128) broadcasts_S1x128_S64x128
  | n + 1, hn => addf (sums tap W hW w B hB b cs h n (Nat.le_of_succ_le hn)) (mulf (tap n hn)
      (broadcastTo S64x128 (shapeCast S1x128 (View.readAt (Elt F) W.view (Rect.unit (s := S31x1024) ![n, 128 * cs] S1x128.size (inb_weight hn h)).toLoadRect (hW.unread w)) shapeCasts_S1x128_S1x128)
        broadcasts_S1x128_S64x128))

/-- The last `k` of a strip's seven shifts over the strips before. -/
def shiftOver (f : Fin 56 → View.Piece (Elt F) S2x7x544x128 .f32) (L : List (View.Piece (Elt F) S2x7x544x128 .f32)) (cs : ℕ) (h : cs < 8) :
    (k : ℕ) → k ≤ 7 → List (View.Piece (Elt F) S2x7x544x128 .f32)
  | 0, _ => L
  | k + 1, hk => f ⟨7 * cs + k, by omega⟩ :: shiftOver f L cs h k (Nat.le_of_succ_le hk)

theorem shiftOver_eq (f : Fin 56 → View.Piece (Elt F) S2x7x544x128 .f32) (cs : ℕ) (h : cs < 8) (k : ℕ) (hk : k ≤ 7) :
    shiftOver f (upto f (7 * cs) (by omega)) cs h k hk = upto f (7 * cs + k) (by omega) := by
  induction k with
  | zero => rfl
  | succ k ih => show _ :: shiftOver f _ cs h k _ = _ :: upto f (7 * cs + k) _; rw [ih]; rfl

/-- The sums' pieces: strip by strip, chunk by chunk of 64 rows. -/
def sumPiece (M : Memref sig .tc .vmem S8x544x128 .f32) (L : List (View.Piece (Elt F) S8x544x128 .f32))
    (N : Memref sig .tc .vmem S2x7x544x128 .f32) (S : (cs : ℕ) → List (View.Piece (Elt F) S2x7x544x128 .f32))
    (W : Memref sig .tc .vmem S31x1024 .f32) (hW : W.IsWhole) (w : Vec F S31x1024 .f32)
    (B : Memref sig .tc .vmem S1x1024 .f32) (hB : B.IsWhole) (b : Vec F S1x1024 .f32) (i : Fin 64) : View.Piece (Elt F) S512x1024 .f32 :=
  have h : i.val / 8 < 8 := by omega
  have hi : i.val % 8 < 8 := by omega
  ⟨Rect.unit (s := S512x1024) ![64 * (i.val % 8), 128 * (i.val / 8)] S64x128.size (inb_sum hi h),
    shapeCast S64x128 (sums (fun n hn => tap M L N (S (i.val / 8)) (i.val / 8) (i.val % 8) n h hi hn) W hW w B hB b (i.val / 8) h 31 (Nat.le_refl 31))
      shapeCasts_S64x128_S64x128⟩

end Cert.InprojIdeal.Stage
-- ==== Proof.InprojValue.lean ====
/-
What the input projection's scratch holds, element by element: the window, its shifts, and the sums over the taps.
-/
module

public import proofs.«01_k».proof.Proof.InprojLists
public import Idealize.ShloMosaic.Lib.WholeRead

@[expose] public section

set_option maxRecDepth 16384

noncomputable section

open Idealize.ShloMosaic Idealize.ShloMosaic.TcCoe

namespace Cert.InprojIdeal.Stage

open Cert.InprojIdeal Cert.InprojIdeal.Gen

/-- The window of strip `cs` at row `r` and lane `l`: the carried rows, then the block's. -/
def win (H : Fin 8 → Vec Ideal S1x32x128 .f32) (glu : FVec Ideal S512x1024 .f32) (cs : Fin 8) (r : Fin 544) (l : Fin 128) : EReal :=
  if h : r.val < 32 then H cs (ix3 (0 : Fin 1) (⟨r.val, h⟩ : Fin 32) l)
  else glu (ix2 (⟨r.val - 32, by omega⟩ : Fin 512) (⟨128 * cs.val + l.val, by omega⟩ : Fin 1024))

theorem winPiece_head (H : Fin 8 → Vec Ideal S1x32x128 .f32) (glu : FVec Ideal S512x1024 .f32) : ∀ cs : Fin 8,
    winPiece H glu ⟨2 * cs.val, by omega⟩ = ⟨Rect.unit (s := S8x544x128) ![cs.val, 0, 0] S1x32x128.size (inb_win_head cs.isLt),
      shapeCast S1x32x128 (shapeCast S32x128 (H cs) shapeCasts_S1x32x128_S32x128) shapeCasts_S32x128_S1x32x128⟩ := by
  intro cs; fin_cases cs <;> rfl

theorem winPiece_rows (H : Fin 8 → Vec Ideal S1x32x128 .f32) (glu : FVec Ideal S512x1024 .f32) : ∀ cs : Fin 8,
    winPiece H glu ⟨2 * cs.val + 1, by omega⟩ = ⟨Rect.unit (s := S8x544x128) ![cs.val, 32, 0] S1x512x128.size (inb_win_rows cs.isLt),
      shapeCast S1x512x128 (extractStridedSlice S512x128 ![0, 128 * cs.val] glu (slice_rows cs.isLt)) shapeCasts_S512x128_S1x512x128⟩ := by
  intro cs; fin_cases cs <;> rfl

/-- The pieces of a family of pairs, one of each kind. -/
theorem pairs (j : Fin 16) : ∃ k : Fin 8, j = ⟨2 * k.val, by omega⟩ ∨ j = ⟨2 * k.val + 1, by omega⟩ :=
  ⟨⟨j.val / 2, by omega⟩, by
    rcases Nat.mod_two_eq_zero_or_one j.val with e | e
    · exact .inl (Fin.ext (by show j.val = 2 * (j.val / 2); omega))
    · exact .inr (Fin.ext (by show j.val = 2 * (j.val / 2) + 1; omega))⟩

/-- Every piece of the window agrees with it. -/
theorem winPiece_val (H : Fin 8 → Vec Ideal S1x32x128 .f32) (glu : FVec Ideal S512x1024 .f32) (j : Fin 16) (cs : Fin 8) (r : Fin 544) (l : Fin 128) :
    Holds (winPiece H glu j) (ix3 cs r l : S8x544x128.Idx) (win H glu cs r l) := by
  obtain ⟨k, rfl | rfl⟩ := pairs j
  · rw [winPiece_head]
    refine holds_unit _ _ fun x hx => ?_
    obtain ⟨a, b, c, rfl⟩ : ∃ a b c, x = (ix3 a b c : S1x32x128.Idx) := ⟨x 0, x 1, x 2, eq_ix3 x⟩
    have h0 : cs.val = k.val + a.val := hx 0
    have h1 : r.val = 0 + b.val := hx 1
    have h2 : l.val = 0 + c.val := hx 2
    obtain rfl : cs = k := Fin.ext (by omega)
    obtain rfl : a = 0 := Fin.ext (by omega)
    obtain rfl : c = l := Fin.ext (by omega)
    rw [win, dif_pos (by omega), show (⟨r.val, by omega⟩ : Fin 32) = b from Fin.ext (by show r.val = b.val; omega)]
    pointwise
  · rw [winPiece_rows]
    refine holds_unit _ _ fun x hx => ?_
    obtain ⟨a, b, c, rfl⟩ : ∃ a b c, x = (ix3 a b c : S1x512x128.Idx) := ⟨x 0, x 1, x 2, eq_ix3 x⟩
    have h0 : cs.val = k.val + a.val := hx 0
    have h1 : r.val = 32 + b.val := hx 1
    have h2 : l.val = 0 + c.val := hx 2
    obtain rfl : cs = k := Fin.ext (by omega)
    obtain rfl : c = l := Fin.ext (by omega)
    rw [win, dif_neg (by omega), show (⟨r.val - 32, by omega⟩ : Fin 512) = b from Fin.ext (by show r.val - 32 = b.val; omega)]
    pointwise

/-- The value of the window scratch once its sixteen pieces are written. -/
theorem win_canon (H : Fin 8 → Vec Ideal S1x32x128 .f32) (glu : FVec Ideal S512x1024 .f32) (cs : Fin 8) (r : Fin 544) (l : Fin 128) :
    View.canon (Val := Elt Ideal) (upto (winPiece H glu) 16 (Nat.le_refl 16)) (ix3 cs r l : S8x544x128.Idx) = win H glu cs r l := by
  by_cases h : r.val < 32
  · refine canon_upto _ _ _ ⟨2 * cs.val, by omega⟩ ?_ 16 _ (by show 2 * cs.val < 16; omega) fun j _ _ => winPiece_val H glu j cs r l
    rw [winPiece_head]
    exact mem_unit _ _ (all3 ⟨Nat.le_refl cs.val, Nat.lt_succ_self cs.val⟩ ⟨Nat.zero_le _, by show r.val < 0 + 32; omega⟩
      ⟨Nat.zero_le _, by show l.val < 0 + 128; omega⟩)
  · refine canon_upto _ _ _ ⟨2 * cs.val + 1, by omega⟩ ?_ 16 _ (by show 2 * cs.val + 1 < 16; omega) fun j _ _ => winPiece_val H glu j cs r l
    rw [winPiece_rows]
    exact mem_unit _ _ (all3 ⟨Nat.le_refl cs.val, Nat.lt_succ_self cs.val⟩ ⟨by show 32 ≤ r.val; omega, by show r.val < 32 + 512; omega⟩
      ⟨Nat.zero_le _, by show l.val < 0 + 128; omega⟩)

/-- A load of unit strides of what a list of pieces holds reads, at an index, the element placed there. -/
theorem readCov_unit {s : Shape} {e : EltTy} (M : Memref sig .tc .vmem s e) (L : List (View.Piece (Elt Ideal) s e)) {off size : Fin s.rank → ℕ} (inb)
    (x : (⟨s.rank, size⟩ : Shape).Idx) (y : s.Idx) (h : ∀ a, (y a : ℕ) = off a + (x a : ℕ)) :
    M.view.readCov L (Rect.unit (s := s) off size inb).toLoadRect x = View.canon L y := by
  rw [View.readCov_eq_canon']
  refine congrArg _ (funext fun a => Fin.ext ?_)
  rw [LoadRect.idx_apply, h a]
  show off a + 1 * _ = _
  rw [Nat.one_mul]

/-- The same of a whole memref holding given contents. -/
theorem readAt_unit {s : Shape} {e : EltTy} (M : Memref sig .tc .vmem s e) (hM : M.IsWhole) (X : Vec Ideal s e) {off size : Fin s.rank → ℕ} (inb)
    (x : (⟨s.rank, size⟩ : Shape).Idx) (y : s.Idx) (h : ∀ a, (y a : ℕ) = off a + (x a : ℕ)) :
    View.readAt (Elt Ideal) M.view (Rect.unit (s := s) off size inb).toLoadRect (hM.unread X) x = X y := by
  refine (hM.readAt_unread X (Rect.unit (s := s) off size inb).toLoadRect x).trans ?_
  refine congrArg _ (funext fun a => Fin.ext ?_)
  rw [LoadRect.idx_apply, h a]
  show off a + 1 * _ = _
  rw [Nat.one_mul]

/-- The two casts of a shift's rows read them. -/
theorem shift_casts (v : FVec Ideal S1x536x128 .f32) (a b : Fin 1) (c : Fin 536) (d : Fin 128) :
    shapeCast S1x1x536x128 (shapeCast S536x128 v shapeCasts_S1x536x128_S536x128) shapeCasts_S536x128_S1x1x536x128 (ix4 a b c d : S1x1x536x128.Idx)
      = v (ix3 0 c d : S1x536x128.Idx) := by
  pointwise

/-- Every shift's piece holds the window moved. -/
theorem shiftPiece_val (M : Memref sig .tc .vmem S8x544x128 .f32) (L : List (View.Piece (Elt Ideal) S8x544x128 .f32)) (i : Fin 56)
    (b : Fin 2) (r : Fin 7) (row : Fin 536) (l : Fin 128) (k : Fin 8) (hk : i.val / 7 = k.val) :
    Holds (shiftPiece M L i) (ix4 b r ⟨row.val, by omega⟩ l : S2x7x544x128.Idx) (View.canon L (ix3 k ⟨r.val + 1 + row.val, by omega⟩ l : S8x544x128.Idx)) := by
  unfold shiftPiece
  refine holds_unit _ _ fun x hx => ?_
  obtain ⟨a, b', c, d, rfl⟩ : ∃ a b c d, x = (ix4 a b c d : S1x1x536x128.Idx) := ⟨x 0, x 1, x 2, x 3, eq_ix4 x⟩
  have h1 : r.val = i.val % 7 + b'.val := hx 1
  have h2 : row.val = 0 + c.val := hx 2
  have h3 : l.val = 0 + d.val := hx 3
  obtain rfl : c = row := Fin.ext (by omega)
  obtain rfl : d = l := Fin.ext (by omega)
  refine (shift_casts _ a b' c d).trans ?_
  exact readCov_unit M L _ _ _ (all3 (by show k.val = i.val / 7 + 0; omega) (by show r.val + 1 + c.val = i.val % 7 + 1 + c.val; omega) (by show d.val = 0 + d.val; omega))

/-- The shifts once a strip's are written. -/
theorem shift_canon (M : Memref sig .tc .vmem S8x544x128 .f32) (L : List (View.Piece (Elt Ideal) S8x544x128 .f32))
    (cs : Fin 8) (b : Fin 2) (hb : b.val = cs.val % 2) (r : Fin 7) (row : Fin 536) (l : Fin 128) (hk : 7 * cs.val + 7 ≤ 56) :
    View.canon (Val := Elt Ideal) (upto (shiftPiece M L) (7 * cs.val + 7) hk) (ix4 b r ⟨row.val, by omega⟩ l : S2x7x544x128.Idx)
      = View.canon L (ix3 cs ⟨r.val + 1 + row.val, by omega⟩ l : S8x544x128.Idx) := by
  refine canon_upto _ _ _ ⟨7 * cs.val + r.val, by omega⟩ ?_ _ _ (by show 7 * cs.val + r.val < 7 * cs.val + 7; omega) fun j hj hk =>
    shiftPiece_val M L j b r row l cs (by have : 7 * cs.val + r.val ≤ j.val := hj; omega)
  unfold shiftPiece
  refine mem_unit _ _ fun a => ?_
  match a with
  | 0 => show (7 * cs.val + r.val) / 7 % 2 ≤ b.val ∧ b.val < (7 * cs.val + r.val) / 7 % 2 + 1; omega
  | 1 => show (7 * cs.val + r.val) % 7 ≤ r.val ∧ r.val < (7 * cs.val + r.val) % 7 + 1; omega
  | 2 => show 0 ≤ row.val ∧ row.val < 0 + 536; omega
  | 3 => show 0 ≤ l.val ∧ l.val < 0 + 128; omega

/-- The cast of a tap's rows from the window reads them. -/
theorem tap_cast (v : FVec Ideal S1x64x128 .f32) (c : Fin 64) (d : Fin 128) :
    shapeCast S64x128 v shapeCasts_S1x64x128_S64x128 (ix2 c d : S64x128.Idx) = v (ix3 0 c d : S1x64x128.Idx) := by
  pointwise

/-- The cast of a tap's rows from the shifts reads them. -/
theorem tap_cast_shift (v : FVec Ideal S1x1x64x128 .f32) (c : Fin 64) (d : Fin 128) :
    shapeCast S64x128 v shapeCasts_S1x1x64x128_S64x128 (ix2 c d : S64x128.Idx) = v (ix4 0 0 c d : S1x1x64x128.Idx) := by
  pointwise

/-- What a tap reads: the window, from the tap's row on. -/
theorem tap_val (M : Memref sig .tc .vmem S8x544x128 .f32) (L : List (View.Piece (Elt Ideal) S8x544x128 .f32))
    (N : Memref sig .tc .vmem S2x7x544x128 .f32) (cs ci : Fin 8) (n : ℕ) (hn : n < 31) (row : Fin 64) (l : Fin 128) (hk : 7 * cs.val + 7 ≤ 56) :
    tap M L N (upto (shiftPiece M L) (7 * cs.val + 7) hk) cs.val ci.val n cs.isLt ci.isLt hn (ix2 row l : S64x128.Idx)
      = View.canon L (ix3 cs ⟨64 * ci.val + row.val + n + 2, by omega⟩ l : S8x544x128.Idx) := by
  unfold tap
  generalize_proofs
  generalize hr : (n + 2) % 8 = q at *
  rcases q with _ | q
  · refine (tap_cast _ row l).trans ?_
    exact readCov_unit M L _ _ _ (all3 (by show cs.val = cs.val + 0; omega) (by show 64 * ci.val + row.val + n + 2 = 64 * ci.val + (n + 2) / 8 * 8 + row.val; omega)
      (by show l.val = 0 + l.val; omega))
  · refine (tap_cast_shift _ row l).trans ?_
    rw [readCov_unit N _ _ _ (ix4 ⟨cs.val % 2, by omega⟩ ⟨q + 1 - 1, by omega⟩ ⟨(⟨64 * ci.val + (n + 2) / 8 * 8 + row.val, by omega⟩ : Fin 536).val, by omega⟩ l) fun a => by
      match a with
      | 0 => show cs.val % 2 = cs.val % 2 + 0; omega
      | 1 => show q + 1 - 1 = q + 1 - 1 + 0; omega
      | 2 => show 64 * ci.val + (n + 2) / 8 * 8 + row.val = 64 * ci.val + (n + 2) / 8 * 8 + row.val; omega
      | 3 => show l.val = 0 + l.val; omega]
    rw [shift_canon M L cs _ rfl]
    exact congrArg (fun t => View.canon L (ix3 cs t l : S8x544x128.Idx)) (Fin.ext (by
      show q + 1 - 1 + 1 + (64 * ci.val + (n + 2) / 8 * 8 + row.val) = 64 * ci.val + row.val + n + 2; omega))

/-- The bias plus the first `n` products, in this order. -/
def fold (b : EReal) (p : (n : ℕ) → n < 31 → EReal) : (n : ℕ) → n ≤ 31 → EReal
  | 0, _ => b
  | n + 1, hn => fold b p n (Nat.le_of_succ_le hn) + p n hn

theorem sums_val (tap : (n : ℕ) → n < 31 → FVec Ideal S64x128 .f32) (W : Memref sig .tc .vmem S31x1024 .f32) (hW : W.IsWhole) (w : Vec Ideal S31x1024 .f32)
    (B : Memref sig .tc .vmem S1x1024 .f32) (hB : B.IsWhole) (b : Vec Ideal S1x1024 .f32) (cs : Fin 8) (row : Fin 64) (l : Fin 128) (n : ℕ) (hn : n ≤ 31) :
    sums tap W hW w B hB b cs.val cs.isLt n hn (ix2 row l : S64x128.Idx)
      = fold (b (ix2 0 ⟨128 * cs.val + l.val, by omega⟩ : S1x1024.Idx))
          (fun j hj => tap j hj (ix2 row l : S64x128.Idx) * w (ix2 ⟨j, hj⟩ ⟨128 * cs.val + l.val, by omega⟩ : S31x1024.Idx)) n hn := by
  induction n with
  | zero =>
    unfold sums fold
    pointwise
    exact readAt_unit B hB b _ _ _ fun a => by
      match a with
      | 0 => rfl
      | 1 => rfl
  | succ n ih =>
    unfold sums fold
    rw [← ih]
    pointwise
    refine congrArg (fun t => _ + _ * t) (readAt_unit W hW w _ _ _ fun a => ?_)
    match a with
    | 0 => rfl
    | 1 => rfl

/-- The sums, element by element, from the window's value. -/
def conv (H : Fin 8 → Vec Ideal S1x32x128 .f32) (glu : FVec Ideal S512x1024 .f32) (w : Vec Ideal S31x1024 .f32) (b : Vec Ideal S1x1024 .f32)
    (row : Fin 512) (ch : Fin 1024) : EReal :=
  fold (b (ix2 0 ch : S1x1024.Idx)) (fun j hj => win H glu ⟨ch.val / 128, by omega⟩ ⟨row.val + j + 2, by omega⟩ ⟨ch.val % 128, by omega⟩
    * w (ix2 ⟨j, hj⟩ ch : S31x1024.Idx)) 31 (Nat.le_refl 31)

theorem sumPiece_val (M : Memref sig .tc .vmem S8x544x128 .f32) (H : Fin 8 → Vec Ideal S1x32x128 .f32) (glu : FVec Ideal S512x1024 .f32)
    (N : Memref sig .tc .vmem S2x7x544x128 .f32) (S : (cs : ℕ) → List (View.Piece (Elt Ideal) S2x7x544x128 .f32))
    (hS : ∀ (cs : ℕ) (h : cs < 8), S cs = upto (shiftPiece M (upto (winPiece H glu) 16 (Nat.le_refl 16))) (7 * cs + 7) (by omega))
    (W : Memref sig .tc .vmem S31x1024 .f32) (hW : W.IsWhole) (w : Vec Ideal S31x1024 .f32)
    (B : Memref sig .tc .vmem S1x1024 .f32) (hB : B.IsWhole) (b : Vec Ideal S1x1024 .f32) (i : Fin 64) (row : Fin 512) (ch : Fin 1024) :
    Holds (sumPiece M (upto (winPiece H glu) 16 (Nat.le_refl 16)) N S W hW w B hB b i) (ix2 row ch : S512x1024.Idx) (conv H glu w b row ch) := by
  unfold sumPiece
  refine holds_unit _ _ fun x hx => ?_
  obtain ⟨r, l, rfl⟩ : ∃ a b, x = (ix2 a b : S64x128.Idx) := ⟨x 0, x 1, eq_ix2 x⟩
  have b0 : 64 * (i.val % 8) + r.val < 512 := by clear hx; omega
  have b1 : 128 * (i.val / 8) + l.val < 1024 := by clear hx; omega
  have h0 : row.val = 64 * (i.val % 8) + r.val := hx 0
  have h1 : ch.val = 128 * (i.val / 8) + l.val := hx 1
  pointwise
  refine (sums_val _ W hW w B hB b ⟨i.val / 8, by omega⟩ r l 31 (Nat.le_refl 31)).trans ?_
  rw [hS _ (by omega)]
  unfold conv
  obtain rfl : ch = ⟨128 * (i.val / 8) + l.val, b1⟩ := Fin.ext h1
  obtain rfl : row = ⟨64 * (i.val % 8) + r.val, b0⟩ := Fin.ext h0
  refine congrArg (fun p => fold _ p 31 _) (funext fun j => funext fun hj => ?_)
  refine congrArg (fun t => t * _) ?_
  refine (tap_val M _ N ⟨i.val / 8, by omega⟩ ⟨i.val % 8, by omega⟩ j hj r l (by show 7 * (i.val / 8) + 7 ≤ 56; omega)).trans ?_
  rw [win_canon]
  congr 1
  · exact Fin.ext (by show i.val / 8 = (128 * (i.val / 8) + l.val) / 128; omega)
  · exact Fin.ext (by show l.val = (128 * (i.val / 8) + l.val) % 128; omega)

/-- The value of the sums' scratch once its sixty-four pieces are written. -/
theorem sum_canon (M : Memref sig .tc .vmem S8x544x128 .f32) (H : Fin 8 → Vec Ideal S1x32x128 .f32) (glu : FVec Ideal S512x1024 .f32)
    (N : Memref sig .tc .vmem S2x7x544x128 .f32) (S : (cs : ℕ) → List (View.Piece (Elt Ideal) S2x7x544x128 .f32))
    (hS : ∀ (cs : ℕ) (h : cs < 8), S cs = upto (shiftPiece M (upto (winPiece H glu) 16 (Nat.le_refl 16))) (7 * cs + 7) (by omega))
    (W : Memref sig .tc .vmem S31x1024 .f32) (hW : W.IsWhole) (w : Vec Ideal S31x1024 .f32)
    (B : Memref sig .tc .vmem S1x1024 .f32) (hB : B.IsWhole) (b : Vec Ideal S1x1024 .f32) (row : Fin 512) (ch : Fin 1024) :
    View.canon (Val := Elt Ideal) (upto (sumPiece M (upto (winPiece H glu) 16 (Nat.le_refl 16)) N S W hW w B hB b) 64 (Nat.le_refl 64)) (ix2 row ch : S512x1024.Idx)
      = conv H glu w b row ch := by
  refine canon_upto _ _ _ ⟨8 * (ch.val / 128) + row.val / 64, by omega⟩ ?_ 64 _ (by show 8 * (ch.val / 128) + row.val / 64 < 64; omega)
    fun j _ _ => sumPiece_val M H glu N S hS W hW w B hB b j row ch
  unfold sumPiece
  refine mem_unit _ _ fun a => ?_
  match a with
  | 0 => show 64 * ((8 * (ch.val / 128) + row.val / 64) % 8) ≤ row.val ∧ row.val < 64 * ((8 * (ch.val / 128) + row.val / 64) % 8) + 64; omega
  | 1 => show 128 * ((8 * (ch.val / 128) + row.val / 64) / 8) ≤ ch.val ∧ ch.val < 128 * ((8 * (ch.val / 128) + row.val / 64) / 8) + 128; omega

/-- The carried rows are zero where the block is a sequence's first. -/
theorem haloFirst_val (M : Memref sig .tc .vmem S8x32x128 .f32) (glu : FVec Ideal S512x1024 .f32) (cs : Fin 8) (r : Fin 32) (l : Fin 128) :
    haloFirst M glu cs (ix3 0 r l : S1x32x128.Idx) = (0 : EReal) := by
  unfold haloFirst
  rw [readCov_unit M _ _ _ (ix3 cs r l : S8x32x128.Idx) (all3 (Nat.add_zero _).symm (Nat.zero_add _).symm (Nat.zero_add _).symm)]
  refine canon_upto _ _ _ ⟨0, by omega⟩ ?_ _ _ (Nat.succ_pos _) fun j hj hk => ?_
  · unfold haloPiece
    exact mem_unit (Val := Elt Ideal) (e := .f32) _ (k0_pay2 (F := Ideal)) (all3 ⟨Nat.zero_le _, by show cs.val < 0 + 8; omega⟩ ⟨Nat.zero_le _, by show r.val < 0 + 32; omega⟩
      ⟨Nat.zero_le _, by show l.val < 0 + 128; omega⟩)
  match j with
  | ⟨0, _⟩ =>
    unfold haloPiece
    refine holds_unit _ _ fun x hx => ?_
    idx_vars x
    pointwise [k0_pay2]
  | ⟨k + 1, h⟩ =>
    unfold haloPiece
    refine holds_unit _ _ fun x hx => ?_
    have h0 : cs.val = k + (x 0).val := hx 0
    have : k + 1 < cs.val + 1 := hk
    have : (x 0).val < 1 := (x 0).isLt
    exfalso; omega

/-- Elsewhere they are what the block before left. -/
theorem haloNext_val (M : Memref sig .tc .vmem S8x32x128 .f32) (hM : M.IsWhole) (xs : Vec Ideal S8x32x128 .f32) (cs : Fin 8) (r : Fin 32) (l : Fin 128) :
    haloNext M hM xs cs (ix3 0 r l : S1x32x128.Idx) = xs (ix3 cs r l : S8x32x128.Idx) := by
  unfold haloNext
  exact readAt_unit M hM xs _ _ _ (all3 (Nat.add_zero _).symm (Nat.zero_add _).symm (Nat.zero_add _).symm)

end Cert.InprojIdeal.Stage
-- ==== Proof.InprojFirst.lean ====
/-
Where a block is a sequence's first, the lists of pieces the run found are the ones of `InprojLists`.
-/
module

public import proofs.«01_k».proof.Proof.Gen.InprojIdeal.Frame.RunA
public import proofs.«01_k».proof.Proof.InprojLists

@[expose] public section

set_option maxRecDepth 65536

noncomputable section

open Idealize.ShloMosaic Idealize.ShloMosaic.TcCoe

namespace Cert.InprojIdeal.Stage

open Cert.InprojIdeal Cert.InprojIdeal.Gen

variable {F : FTy → Type} [FloatOps F] (c : Dev nD)
  (arg2 : Memref sig .tc .vmem S1x512x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x5120 .bf16) (harg6 : arg6.IsWhole) (arg8 : Memref sig .tc .vmem S31x1024 .f32) (harg8 : arg8.IsWhole)
  (arg9 : Memref sig .tc .vmem S1x1024 .f32) (harg9 : arg9.IsWhole) (arg14 : Memref sig .tc .vmem S512x2048 .bf16)
  (arg15 : Memref sig .tc .vmem S8x544x128 .f32) (arg16 : Memref sig .tc .vmem S8x32x128 .f32) (arg17 : Memref sig .tc .vmem S2x7x544x128 .f32)
  (x0 : Vec F S1x512x2048 .f32) (x1 : Vec F S1x2048 .f32) (x2 : Vec F S1x1x2048 .f32) (x3 : Vec F S1x1x2048 .f32)
  (x4 : Vec F S2048x5120 .bf16) (x6 : Vec F S31x1024 .f32) (x7 : Vec F S1x1024 .f32)

/-- The gated rows of a sequence's first block. -/
abbrev gluA := kernelRun0_A.sl.r c arg2 harg2 arg3 harg3 arg4 harg4 arg5 harg5 arg6 harg6 arg14 x0 x1 x2 x3 x4

/-- Its window's pieces as the run found them. -/
abbrev winA := kernelRun0_A.sl.HS1_16 c arg2 harg2 arg3 harg3 arg4 harg4 arg5 harg5 arg6 harg6 arg14 arg16 x0 x1 x2 x3 x4

theorem winA_eq : winA c arg2 harg2 arg3 harg3 arg4 harg4 arg5 harg5 arg6 harg6 arg14 arg16 x0 x1 x2 x3 x4
    = upto (winPiece (haloFirst arg16 (gluA c arg2 harg2 arg3 harg3 arg4 harg4 arg5 harg5 arg6 harg6 arg14 x0 x1 x2 x3 x4))
        (gluA c arg2 harg2 arg3 harg3 arg4 harg4 arg5 harg5 arg6 harg6 arg14 x0 x1 x2 x3 x4)) 16 (Nat.le_refl 16) := rfl

/-- The shifts' pieces as the run found them, up to each strip's. -/
def shiftA : ℕ → List (View.Piece (Elt F) S2x7x544x128 .f32)
  | 0 => kernelRun0_A.sl.HS3_7 c arg2 harg2 arg3 harg3 arg4 harg4 arg5 harg5 arg6 harg6 arg14 arg15 arg16 x0 x1 x2 x3 x4
  | 1 => kernelRun0_A.sl.HS3_14 c arg2 harg2 arg3 harg3 arg4 harg4 arg5 harg5 arg6 harg6 arg14 arg15 arg16 x0 x1 x2 x3 x4
  | 2 => kernelRun0_A.sl.HS3_21 c arg2 harg2 arg3 harg3 arg4 harg4 arg5 harg5 arg6 harg6 arg14 arg15 arg16 x0 x1 x2 x3 x4
  | 3 => kernelRun0_A.sl.HS3_28 c arg2 harg2 arg3 harg3 arg4 harg4 arg5 harg5 arg6 harg6 arg14 arg15 arg16 x0 x1 x2 x3 x4
  | 4 => kernelRun0_A.sl.HS3_35 c arg2 harg2 arg3 harg3 arg4 harg4 arg5 harg5 arg6 harg6 arg14 arg15 arg16 x0 x1 x2 x3 x4
  | 5 => kernelRun0_A.sl.HS3_42 c arg2 harg2 arg3 harg3 arg4 harg4 arg5 harg5 arg6 harg6 arg14 arg15 arg16 x0 x1 x2 x3 x4
  | 6 => kernelRun0_A.sl.HS3_49 c arg2 harg2 arg3 harg3 arg4 harg4 arg5 harg5 arg6 harg6 arg14 arg15 arg16 x0 x1 x2 x3 x4
  | 7 => kernelRun0_A.sl.HS3_56 c arg2 harg2 arg3 harg3 arg4 harg4 arg5 harg5 arg6 harg6 arg14 arg15 arg16 x0 x1 x2 x3 x4
  | _ => []

theorem shiftA_zero : shiftA c arg2 harg2 arg3 harg3 arg4 harg4 arg5 harg5 arg6 harg6 arg14 arg15 arg16 x0 x1 x2 x3 x4 0
    = shiftOver (shiftPiece arg15 (winA c arg2 harg2 arg3 harg3 arg4 harg4 arg5 harg5 arg6 harg6 arg14 arg16 x0 x1 x2 x3 x4)) [] 0 (by omega) 7 (Nat.le_refl 7) := rfl

theorem shiftA_succ (cs : ℕ) (h : cs < 7) : shiftA c arg2 harg2 arg3 harg3 arg4 harg4 arg5 harg5 arg6 harg6 arg14 arg15 arg16 x0 x1 x2 x3 x4 (cs + 1)
    = shiftOver (shiftPiece arg15 (winA c arg2 harg2 arg3 harg3 arg4 harg4 arg5 harg5 arg6 harg6 arg14 arg16 x0 x1 x2 x3 x4))
        (shiftA c arg2 harg2 arg3 harg3 arg4 harg4 arg5 harg5 arg6 harg6 arg14 arg15 arg16 x0 x1 x2 x3 x4 cs) (cs + 1) (by omega) 7 (Nat.le_refl 7) := by
  interval_cases cs <;> dsimp only [shiftA, shiftOver, shiftPiece, Nat.reduceMul, Nat.reduceAdd, Nat.reduceDiv, Nat.reduceMod] <;> rfl

theorem shiftA_eq (cs : ℕ) (h : cs < 8) : shiftA c arg2 harg2 arg3 harg3 arg4 harg4 arg5 harg5 arg6 harg6 arg14 arg15 arg16 x0 x1 x2 x3 x4 cs
    = upto (shiftPiece arg15 (winA c arg2 harg2 arg3 harg3 arg4 harg4 arg5 harg5 arg6 harg6 arg14 arg16 x0 x1 x2 x3 x4)) (7 * cs + 7) (by omega) := by
  induction cs with
  | zero => rw [shiftA_zero]; exact shiftOver_eq _ 0 _ 7 _
  | succ cs ih => rw [shiftA_succ (h := by omega), ih (by omega)]; exact shiftOver_eq _ (cs + 1) h 7 _

set_option maxHeartbeats 4000000 in
theorem sumA_eq : kernelRun0_A.sl.HS4_64 c arg2 harg2 arg3 harg3 arg4 harg4 arg5 harg5 arg6 harg6 arg8 harg8 arg9 harg9 arg14 arg15 arg16 arg17 x0 x1 x2 x3 x4 x6 x7
    = upto (sumPiece arg15 (winA c arg2 harg2 arg3 harg3 arg4 harg4 arg5 harg5 arg6 harg6 arg14 arg16 x0 x1 x2 x3 x4) arg17
        (shiftA c arg2 harg2 arg3 harg3 arg4 harg4 arg5 harg5 arg6 harg6 arg14 arg15 arg16 x0 x1 x2 x3 x4) arg8 harg8 x6 arg9 harg9 x7) 64 (Nat.le_refl 64) := rfl

end Cert.InprojIdeal.Stage
-- ==== Proof.InprojNext.lean ====
/-
Where a block is not a sequence's first, the lists of pieces the run found are the ones of `InprojLists`.
-/
module

public import proofs.«01_k».proof.Proof.Gen.InprojIdeal.Frame.RunB
public import proofs.«01_k».proof.Proof.InprojLists

@[expose] public section

set_option maxRecDepth 65536

noncomputable section

open Idealize.ShloMosaic Idealize.ShloMosaic.TcCoe

namespace Cert.InprojIdeal.Stage

open Cert.InprojIdeal Cert.InprojIdeal.Gen

variable {F : FTy → Type} [FloatOps F] (c : Dev nD)
  (arg2 : Memref sig .tc .vmem S1x512x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x5120 .bf16) (harg6 : arg6.IsWhole) (arg8 : Memref sig .tc .vmem S31x1024 .f32) (harg8 : arg8.IsWhole)
  (arg9 : Memref sig .tc .vmem S1x1024 .f32) (harg9 : arg9.IsWhole) (arg14 : Memref sig .tc .vmem S512x2048 .bf16)
  (arg15 : Memref sig .tc .vmem S8x544x128 .f32) (arg16 : Memref sig .tc .vmem S8x32x128 .f32) (harg16 : arg16.IsWhole) (arg17 : Memref sig .tc .vmem S2x7x544x128 .f32)
  (x0 : Vec F S1x512x2048 .f32) (x1 : Vec F S1x2048 .f32) (x2 : Vec F S1x1x2048 .f32) (x3 : Vec F S1x1x2048 .f32)
  (x4 : Vec F S2048x5120 .bf16) (x6 : Vec F S31x1024 .f32) (x7 : Vec F S1x1024 .f32) (xs2 : Vec F S8x32x128 .f32)

/-- The gated rows of a later block. -/
abbrev gluB := kernelRun0_B.sl.r c arg2 harg2 arg3 harg3 arg4 harg4 arg5 harg5 arg6 harg6 arg14 x0 x1 x2 x3 x4

/-- Its window's pieces as the run found them. -/
abbrev winB := kernelRun0_B.sl.HS1_16 c arg2 harg2 arg3 harg3 arg4 harg4 arg5 harg5 arg6 harg6 arg14 arg16 harg16 x0 x1 x2 x3 x4 xs2

theorem winB_eq : winB c arg2 harg2 arg3 harg3 arg4 harg4 arg5 harg5 arg6 harg6 arg14 arg16 harg16 x0 x1 x2 x3 x4 xs2
    = upto (winPiece (haloNext arg16 harg16 xs2)
        (gluB c arg2 harg2 arg3 harg3 arg4 harg4 arg5 harg5 arg6 harg6 arg14 x0 x1 x2 x3 x4)) 16 (Nat.le_refl 16) := rfl

/-- The shifts' pieces as the run found them, up to each strip's. -/
def shiftB : ℕ → List (View.Piece (Elt F) S2x7x544x128 .f32)
  | 0 => kernelRun0_B.sl.HS3_7 c arg2 harg2 arg3 harg3 arg4 harg4 arg5 harg5 arg6 harg6 arg14 arg15 arg16 harg16 x0 x1 x2 x3 x4 xs2
  | 1 => kernelRun0_B.sl.HS3_14 c arg2 harg2 arg3 harg3 arg4 harg4 arg5 harg5 arg6 harg6 arg14 arg15 arg16 harg16 x0 x1 x2 x3 x4 xs2
  | 2 => kernelRun0_B.sl.HS3_21 c arg2 harg2 arg3 harg3 arg4 harg4 arg5 harg5 arg6 harg6 arg14 arg15 arg16 harg16 x0 x1 x2 x3 x4 xs2
  | 3 => kernelRun0_B.sl.HS3_28 c arg2 harg2 arg3 harg3 arg4 harg4 arg5 harg5 arg6 harg6 arg14 arg15 arg16 harg16 x0 x1 x2 x3 x4 xs2
  | 4 => kernelRun0_B.sl.HS3_35 c arg2 harg2 arg3 harg3 arg4 harg4 arg5 harg5 arg6 harg6 arg14 arg15 arg16 harg16 x0 x1 x2 x3 x4 xs2
  | 5 => kernelRun0_B.sl.HS3_42 c arg2 harg2 arg3 harg3 arg4 harg4 arg5 harg5 arg6 harg6 arg14 arg15 arg16 harg16 x0 x1 x2 x3 x4 xs2
  | 6 => kernelRun0_B.sl.HS3_49 c arg2 harg2 arg3 harg3 arg4 harg4 arg5 harg5 arg6 harg6 arg14 arg15 arg16 harg16 x0 x1 x2 x3 x4 xs2
  | 7 => kernelRun0_B.sl.HS3_56 c arg2 harg2 arg3 harg3 arg4 harg4 arg5 harg5 arg6 harg6 arg14 arg15 arg16 harg16 x0 x1 x2 x3 x4 xs2
  | _ => []

theorem shiftB_zero : shiftB c arg2 harg2 arg3 harg3 arg4 harg4 arg5 harg5 arg6 harg6 arg14 arg15 arg16 harg16 x0 x1 x2 x3 x4 xs2 0
    = shiftOver (shiftPiece arg15 (winB c arg2 harg2 arg3 harg3 arg4 harg4 arg5 harg5 arg6 harg6 arg14 arg16 harg16 x0 x1 x2 x3 x4 xs2)) [] 0 (by omega) 7 (Nat.le_refl 7) := rfl

theorem shiftB_succ (cs : ℕ) (h : cs < 7) : shiftB c arg2 harg2 arg3 harg3 arg4 harg4 arg5 harg5 arg6 harg6 arg14 arg15 arg16 harg16 x0 x1 x2 x3 x4 xs2 (cs + 1)
    = shiftOver (shiftPiece arg15 (winB c arg2 harg2 arg3 harg3 arg4 harg4 arg5 harg5 arg6 harg6 arg14 arg16 harg16 x0 x1 x2 x3 x4 xs2))
        (shiftB c arg2 harg2 arg3 harg3 arg4 harg4 arg5 harg5 arg6 harg6 arg14 arg15 arg16 harg16 x0 x1 x2 x3 x4 xs2 cs) (cs + 1) (by omega) 7 (Nat.le_refl 7) := by
  interval_cases cs <;> dsimp only [shiftB, shiftOver, shiftPiece, Nat.reduceMul, Nat.reduceAdd, Nat.reduceDiv, Nat.reduceMod] <;> rfl

theorem shiftB_eq (cs : ℕ) (h : cs < 8) : shiftB c arg2 harg2 arg3 harg3 arg4 harg4 arg5 harg5 arg6 harg6 arg14 arg15 arg16 harg16 x0 x1 x2 x3 x4 xs2 cs
    = upto (shiftPiece arg15 (winB c arg2 harg2 arg3 harg3 arg4 harg4 arg5 harg5 arg6 harg6 arg14 arg16 harg16 x0 x1 x2 x3 x4 xs2)) (7 * cs + 7) (by omega) := by
  induction cs with
  | zero => rw [shiftB_zero]; exact shiftOver_eq _ 0 _ 7 _
  | succ cs ih => rw [shiftB_succ (h := by omega), ih (by omega)]; exact shiftOver_eq _ (cs + 1) h 7 _

set_option maxHeartbeats 4000000 in
theorem sumB_eq : kernelRun0_B.sl.HS4_64 c arg2 harg2 arg3 harg3 arg4 harg4 arg5 harg5 arg6 harg6 arg8 harg8 arg9 harg9 arg14 arg15 arg16 harg16 arg17 x0 x1 x2 x3 x4 x6 x7 xs2
    = upto (sumPiece arg15 (winB c arg2 harg2 arg3 harg3 arg4 harg4 arg5 harg5 arg6 harg6 arg14 arg16 harg16 x0 x1 x2 x3 x4 xs2) arg17
        (shiftB c arg2 harg2 arg3 harg3 arg4 harg4 arg5 harg5 arg6 harg6 arg14 arg15 arg16 harg16 x0 x1 x2 x3 x4 xs2) arg8 harg8 x6 arg9 harg9 x7) 64 (Nat.le_refl 64) := rfl

end Cert.InprojIdeal.Stage
-- ==== Proof.InprojPoint.lean ====
/-
What one point of the input projection leaves: the convolution module's rows of its block, and the rows carried on.
-/
module

public import proofs.«01_k».proof.Proof.InprojValue
public import proofs.«01_k».proof.Proof.InprojFirst
public import proofs.«01_k».proof.Proof.InprojNext
public import proofs.«01_k».proof.Proof.Gen.InprojIdeal.Frame

@[expose] public section

set_option maxRecDepth 16384

noncomputable section

open Idealize.ShloMosaic Idealize.ShloMosaic.TcCoe Idealize.SL.Sem

namespace Cert.InprojIdeal.Stage

open Cert.InprojIdeal Cert.InprojIdeal.Gen

/-- A thousand and twenty-four columns of the weights. -/
def cols (w : Vec Ideal S2048x5120 .bf16) (off : ℕ) (h : off + 1024 ≤ 5120) : FVec Ideal S2048x1024 .bf16 :=
  fun j => w (ix2 (j 0) ⟨off + (j 1).val, by have : (j 1).val < 1024 := (j 1).isLt; omega⟩ : S2048x5120.Idx)

theorem read_cols (M : Memref sig .tc .vmem S2048x5120 .bf16) (hM : M.IsWhole) (w : Vec Ideal S2048x5120 .bf16) (off : ℕ) (h : off + 1024 ≤ 5120) (inb) :
    View.readAt (Elt Ideal) M.view (Rect.unit (s := S2048x5120) ![0, off] S2048x1024.size inb).toLoadRect (hM.unread w) = cols w off h := by
  funext j
  exact readAt_unit M hM w inb j _ fun a => by
    match a with
    | 0 => exact (Nat.zero_add _).symm
    | 1 => rfl

theorem read_row (M : Memref sig .tc .vmem S1x1024 .f32) (hM : M.IsWhole) (b : Vec Ideal S1x1024 .f32) (inb) :
    View.readAt (Elt Ideal) M.view (Rect.unit (s := S1x1024) ![0, 0] ![1, 1024] inb).toLoadRect (hM.unread b) = b := by
  funext j
  exact readAt_unit M hM b inb j j fun a => by
    match a with
    | 0 => exact (Nat.zero_add _).symm
    | 1 => exact (Nat.zero_add _).symm

/-- A single piece of a whole block. -/
theorem whole_piece (inb) (v : FVec Ideal S512x1024 .bf16) (L : List (View.Piece (Elt Ideal) S512x1024 .bf16)) :
    View.canon (Val := Elt Ideal) (⟨Rect.unit (s := S512x1024) ![0, 0] ![512, 1024] inb, v⟩ :: L) = v := by
  simp (disch := decide) only [View.canon_cons_unit_lit']

/-- A strip's last rows are in the piece stored for it. -/
theorem haloPiece_mem (glu : FVec Ideal S512x1024 .f32) (cs : Fin 8) (r : Fin 32) (l : Fin 128) :
    (ix3 cs r l : S8x32x128.Idx) ∈ (haloPiece glu cs.succ).1.set :=
  (Rect.mem_set_unit (inb := inb_halo cs.isLt)).mpr (all3 ⟨Nat.le_refl _, Nat.lt_succ_self _⟩ ⟨Nat.zero_le _, (Nat.zero_add 32).symm ▸ r.isLt⟩
    ⟨Nat.zero_le _, (Nat.zero_add 128).symm ▸ l.isLt⟩)

/-- Every strip's piece holds its last rows. -/
theorem haloPiece_val (glu : FVec Ideal S512x1024 .f32) (k : ℕ) (h : k + 1 < 9) (cs : Fin 8) (r : Fin 32) (l : Fin 128) :
    Holds (haloPiece glu ⟨k + 1, h⟩) (ix3 cs r l : S8x32x128.Idx) (glu (ix2 ⟨480 + r.val, by omega⟩ ⟨128 * cs.val + l.val, by omega⟩ : S512x1024.Idx)) := by
  unfold haloPiece
  refine holds_unit _ _ fun x hx => ?_
  obtain ⟨a, b, d, rfl⟩ : ∃ a b d, x = (ix3 a b d : S1x32x128.Idx) := ⟨x 0, x 1, x 2, eq_ix3 x⟩
  have h0 : cs.val = k + a.val := hx 0
  have h1 : r.val = 0 + b.val := hx 1
  have h2 : l.val = 0 + d.val := hx 2
  obtain rfl : b = r := Fin.ext (by omega)
  obtain rfl : d = l := Fin.ext (by omega)
  obtain rfl : k = cs.val := by omega
  pointwise

/-- A block's gated channels from its modulated rows. -/
def gluOf (u : FVec Ideal S512x2048 .bf16) (w : Vec Ideal S2048x5120 .bf16) : FVec Ideal S512x1024 .f32 :=
  k0_pay4 u (cols w 3072 (by omega)) u (cols w 4096 (by omega))

/-- A block's sums. -/
def zOf (H : Fin 8 → Vec Ideal S1x32x128 .f32) (glu : FVec Ideal S512x1024 .f32) (w : Vec Ideal S31x1024 .f32) (b : Vec Ideal S1x1024 .f32) :
    FVec Ideal S512x1024 .f32 := fun y => conv H glu w b (y 0) (y 1)

section CaseA

variable (c : Dev nD) (i : grid0.Coords)
  (arg2 : Memref sig .tc .vmem S1x512x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x5120 .bf16) (harg6 : arg6.IsWhole) (arg7 : Memref sig .tc .vmem S512x512 .f32) (harg7 : arg7.IsWhole)
  (arg8 : Memref sig .tc .vmem S31x1024 .f32) (harg8 : arg8.IsWhole)
  (arg9 : Memref sig .tc .vmem S1x1024 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S512x3072 .bf16) (harg12 : arg12.IsWhole)
  (arg13 : Memref sig .tc .vmem S512x1024 .bf16) (harg13 : arg13.IsWhole) (arg14 : Memref sig .tc .vmem S512x2048 .bf16) (harg14 : arg14.IsWhole)
  (arg15 : Memref sig .tc .vmem S8x544x128 .f32) (harg15 : arg15.IsWhole) (arg16 : Memref sig .tc .vmem S8x32x128 .f32) (harg16 : arg16.IsWhole)
  (arg17 : Memref sig .tc .vmem S2x7x544x128 .f32) (harg17 : arg17.IsWhole) (arg18 : Memref sig .tc .vmem S512x1024 .f32) (harg18 : arg18.IsWhole)
  (hc0 : cond0_0 i)
  (x0 : Vec Ideal S1x512x2048 .f32) (x1 : Vec Ideal S1x2048 .f32) (x2 : Vec Ideal S1x1x2048 .f32) (x3 : Vec Ideal S1x1x2048 .f32)
  (x4 : Vec Ideal S2048x5120 .bf16) (x5 : Vec Ideal S512x512 .f32) (x6 : Vec Ideal S31x1024 .f32) (x7 : Vec Ideal S1x1024 .f32)
  (x8 : Vec Ideal S1x1024 .f32) (x9 : Vec Ideal S1x1024 .f32)

theorem uA_eq : kernelRun0_A.sl.v33 c arg2 harg2 arg3 harg3 arg4 harg4 arg5 harg5 arg14 x0 x1 x2 x3 = k0_pay3 x0 x1 x2 x3 := by
  unfold kernelRun0_A.sl.v33 kernelRun0_A.sl.HS0_1
  frame_out

theorem gluA_eq : gluA c arg2 harg2 arg3 harg3 arg4 harg4 arg5 harg5 arg6 harg6 arg14 x0 x1 x2 x3 x4 = gluOf (k0_pay3 x0 x1 x2 x3) x4 := by
  show kernelRun0_A.sl.r _ _ _ _ _ _ _ _ _ _ _ _ _ _ _ _ _ = _
  unfold kernelRun0_A.sl.r gluOf
  rw [uA_eq, read_cols arg6 harg6 x4 3072 (by omega), read_cols arg6 harg6 x4 4096 (by omega)]

/-- The sums' scratch as read. -/
theorem zA_eq : kernelRun0_A.sl.v9460 c arg2 harg2 arg3 harg3 arg4 harg4 arg5 harg5 arg6 harg6 arg8 harg8 arg9 harg9 arg14 arg15 arg16 arg17 arg18 x0 x1 x2 x3 x4 x6 x7
    = zOf (haloFirst arg16 (gluOf (k0_pay3 x0 x1 x2 x3) x4)) (gluOf (k0_pay3 x0 x1 x2 x3) x4) x6 x7 := by
  unfold kernelRun0_A.sl.v9460
  funext y
  obtain ⟨a, b, rfl⟩ : ∃ a b, y = (ix2 a b : S512x1024.Idx) := ⟨y 0, y 1, eq_ix2 y⟩
  rw [readCov_unit arg18 _ _ _ (ix2 a b : S512x1024.Idx) fun d => by
    match d with
    | 0 => exact (Nat.zero_add _).symm
    | 1 => exact (Nat.zero_add _).symm]
  rw [sumA_eq, winA_eq, gluA_eq]
  exact sum_canon arg15 _ _ arg17 _ (fun cs h => (shiftA_eq _ _ _ _ _ _ _ _ _ _ _ _ _ _ _ _ _ _ _ cs h).trans (by rw [winA_eq, gluA_eq])) arg8 harg8 x6 arg9 harg9 x7 a b

theorem out11A_eq : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9
    = k0_pay1 (zOf (haloFirst arg16 (gluOf (k0_pay3 x0 x1 x2 x3) x4)) (gluOf (k0_pay3 x0 x1 x2 x3) x4) x6 x7) (k0_pay766 (zOf (haloFirst arg16 (gluOf (k0_pay3 x0 x1 x2 x3) x4)) (gluOf (k0_pay3 x0 x1 x2 x3) x4) x6 x7)) x8 x9 := by
  rw [← zA_eq c arg2 harg2 arg3 harg3 arg4 harg4 arg5 harg5 arg6 harg6 arg8 harg8 arg9 harg9 arg14 arg15 arg16 arg17 arg18 x0 x1 x2 x3 x4 x6 x7]
  unfold out0_A_11
  rw [View.read_writes_junk_eq_canon]
  refine (whole_piece _ _ _).trans ?_
  show k0_pay1 _ (kernelRun0_A.sl.r_384 c arg2 harg2 arg3 harg3 arg4 harg4 arg5 harg5 arg6 harg6 arg8 harg8 arg9 harg9 arg14 arg15 arg16 arg17 arg18 x0 x1 x2 x3 x4 x6 x7) _ _ = _
  unfold kernelRun0_A.sl.r_384
  rw [read_row arg10 harg10 x8, read_row arg11 harg11 x9]

theorem soutA_val (cs : Fin 8) (r : Fin 32) (l : Fin 128) : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 (ix3 cs r l : S8x32x128.Idx)
    = gluOf (k0_pay3 x0 x1 x2 x3) x4 (ix2 ⟨480 + r.val, by omega⟩ ⟨128 * cs.val + l.val, by omega⟩ : S512x1024.Idx) := by
  unfold sout0_A_2
  rw [View.read_writes_junk_eq_canon]
  refine (show _ = View.canon (Val := Elt Ideal) (upto (haloPiece (gluA c arg2 harg2 arg3 harg3 arg4 harg4 arg5 harg5 arg6 harg6 arg14 x0 x1 x2 x3 x4)) 9 (Nat.le_refl 9)) _ from rfl).trans ?_
  rw [gluA_eq]
  exact canon_upto _ _ _ ⟨cs.val + 1, by omega⟩ (haloPiece_mem _ cs r l) 9 _ (by show cs.val + 1 < 9; omega) fun j hj _ => by
    match j with
    | ⟨0, _⟩ => exact absurd hj (Nat.not_succ_le_zero _)
    | ⟨k + 1, h⟩ => exact haloPiece_val _ k h cs r l

end CaseA

section CaseB

variable (c : Dev nD) (i : grid0.Coords)
  (arg2 : Memref sig .tc .vmem S1x512x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x5120 .bf16) (harg6 : arg6.IsWhole) (arg7 : Memref sig .tc .vmem S512x512 .f32) (harg7 : arg7.IsWhole)
  (arg8 : Memref sig .tc .vmem S31x1024 .f32) (harg8 : arg8.IsWhole)
  (arg9 : Memref sig .tc .vmem S1x1024 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S512x3072 .bf16) (harg12 : arg12.IsWhole)
  (arg13 : Memref sig .tc .vmem S512x1024 .bf16) (harg13 : arg13.IsWhole) (arg14 : Memref sig .tc .vmem S512x2048 .bf16) (harg14 : arg14.IsWhole)
  (arg15 : Memref sig .tc .vmem S8x544x128 .f32) (harg15 : arg15.IsWhole) (arg16 : Memref sig .tc .vmem S8x32x128 .f32) (harg16 : arg16.IsWhole)
  (arg17 : Memref sig .tc .vmem S2x7x544x128 .f32) (harg17 : arg17.IsWhole) (arg18 : Memref sig .tc .vmem S512x1024 .f32) (harg18 : arg18.IsWhole)
  (hc0 : ¬cond0_0 i)
  (x0 : Vec Ideal S1x512x2048 .f32) (x1 : Vec Ideal S1x2048 .f32) (x2 : Vec Ideal S1x1x2048 .f32) (x3 : Vec Ideal S1x1x2048 .f32)
  (x4 : Vec Ideal S2048x5120 .bf16) (x5 : Vec Ideal S512x512 .f32) (x6 : Vec Ideal S31x1024 .f32) (x7 : Vec Ideal S1x1024 .f32)
  (x8 : Vec Ideal S1x1024 .f32) (x9 : Vec Ideal S1x1024 .f32)
  (xs2 : Vec Ideal S8x32x128 .f32)

theorem uB_eq : kernelRun0_B.sl.v33 c arg2 harg2 arg3 harg3 arg4 harg4 arg5 harg5 arg14 x0 x1 x2 x3 = k0_pay3 x0 x1 x2 x3 := by
  unfold kernelRun0_B.sl.v33 kernelRun0_B.sl.HS0_1
  frame_out

theorem gluB_eq : gluB c arg2 harg2 arg3 harg3 arg4 harg4 arg5 harg5 arg6 harg6 arg14 x0 x1 x2 x3 x4 = gluOf (k0_pay3 x0 x1 x2 x3) x4 := by
  show kernelRun0_B.sl.r _ _ _ _ _ _ _ _ _ _ _ _ _ _ _ _ _ = _
  unfold kernelRun0_B.sl.r gluOf
  rw [uB_eq, read_cols arg6 harg6 x4 3072 (by omega), read_cols arg6 harg6 x4 4096 (by omega)]

/-- The sums' scratch as read. -/
theorem zB_eq : kernelRun0_B.sl.v9460 c arg2 harg2 arg3 harg3 arg4 harg4 arg5 harg5 arg6 harg6 arg8 harg8 arg9 harg9 arg14 arg15 arg16 harg16 arg17 arg18 x0 x1 x2 x3 x4 x6 x7 xs2
    = zOf (haloNext arg16 harg16 xs2) (gluOf (k0_pay3 x0 x1 x2 x3) x4) x6 x7 := by
  unfold kernelRun0_B.sl.v9460
  funext y
  obtain ⟨a, b, rfl⟩ : ∃ a b, y = (ix2 a b : S512x1024.Idx) := ⟨y 0, y 1, eq_ix2 y⟩
  rw [readCov_unit arg18 _ _ _ (ix2 a b : S512x1024.Idx) fun d => by
    match d with
    | 0 => exact (Nat.zero_add _).symm
    | 1 => exact (Nat.zero_add _).symm]
  rw [sumB_eq, winB_eq, gluB_eq]
  exact sum_canon arg15 _ _ arg17 _ (fun cs h => (shiftB_eq _ _ _ _ _ _ _ _ _ _ _ _ _ _ _ _ _ _ _ _ _ cs h).trans (by rw [winB_eq, gluB_eq])) arg8 harg8 x6 arg9 harg9 x7 a b

theorem out11B_eq : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs2
    = k0_pay1 (zOf (haloNext arg16 harg16 xs2) (gluOf (k0_pay3 x0 x1 x2 x3) x4) x6 x7) (k0_pay766 (zOf (haloNext arg16 harg16 xs2) (gluOf (k0_pay3 x0 x1 x2 x3) x4) x6 x7)) x8 x9 := by
  rw [← zB_eq c arg2 harg2 arg3 harg3 arg4 harg4 arg5 harg5 arg6 harg6 arg8 harg8 arg9 harg9 arg14 arg15 arg16 harg16 arg17 arg18 x0 x1 x2 x3 x4 x6 x7 xs2]
  unfold out0_B_11
  rw [View.read_writes_junk_eq_canon]
  refine (whole_piece _ _ _).trans ?_
  show k0_pay1 _ (kernelRun0_B.sl.r_384 c arg2 harg2 arg3 harg3 arg4 harg4 arg5 harg5 arg6 harg6 arg8 harg8 arg9 harg9 arg14 arg15 arg16 harg16 arg17 arg18 x0 x1 x2 x3 x4 x6 x7 xs2) _ _ = _
  unfold kernelRun0_B.sl.r_384
  rw [read_row arg10 harg10 x8, read_row arg11 harg11 x9]

theorem soutB_val (cs : Fin 8) (r : Fin 32) (l : Fin 128) : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs2 (ix3 cs r l : S8x32x128.Idx)
    = gluOf (k0_pay3 x0 x1 x2 x3) x4 (ix2 ⟨480 + r.val, by omega⟩ ⟨128 * cs.val + l.val, by omega⟩ : S512x1024.Idx) := by
  unfold sout0_B_2
  rw [View.read_writes_junk_eq_canon]
  refine (show _ = View.canon (Val := Elt Ideal) (upto (fun k : Fin 8 => haloPiece (gluB c arg2 harg2 arg3 harg3 arg4 harg4 arg5 harg5 arg6 harg6 arg14 x0 x1 x2 x3 x4) k.succ) 8 (Nat.le_refl 8)) _ from rfl).trans ?_
  rw [gluB_eq]
  exact canon_upto (fun k : Fin 8 => haloPiece (gluOf (k0_pay3 x0 x1 x2 x3) x4) k.succ) _ _ cs (haloPiece_mem _ cs r l) 8 _ (cs.isLt) fun j hj _ => by
    exact haloPiece_val _ j.val (Nat.succ_lt_succ j.isLt) cs r l

end CaseB

end Cert.InprojIdeal.Stage
-- ==== Proof.InprojHeads.lean ====
/-
The heads' rows one point of the input projection leaves: rotated queries and keys head by head, then the values.
-/
module

public import proofs.«01_k».proof.Proof.InprojPoint

@[expose] public section

set_option maxRecDepth 16384

noncomputable section

open Idealize.ShloMosaic Idealize.ShloMosaic.TcCoe Idealize.SL.Sem

namespace Cert.InprojIdeal.Stage

open Cert.InprojIdeal Cert.InprojIdeal.Gen

/-- The first of two at zero, else the second. -/
def pick {α : Sort*} (a b : α) : ℕ → α
  | 0 => a
  | _ + 1 => b

theorem pick_zero {α : Sort*} (a b : α) (n : ℕ) (h : n = 0) : pick a b n = a := by subst h; rfl
theorem pick_one {α : Sort*} (a b : α) (n : ℕ) (h : n = 1) : pick a b n = b := by subst h; rfl

theorem slices_head {h : ℕ} (hh : h < 8) : S512x1024.Slices ![0, 128 * h] S512x128 := by
  interval_cases h <;> decide

/-- One head's columns, rotated. -/
def head (p : FVec Ideal S512x1024 .f32) (C S : FVec Ideal S512x128 .f32) (h : ℕ) (hh : h < 8) : FVec Ideal S512x128 .bf16 :=
  truncf .bf16 (addf (mulf (extractStridedSlice S512x128 ![0, 128 * h] p (slices_head hh)) C)
    (mulf (dynamicRotate 1 64#32 none (extractStridedSlice S512x128 ![0, 128 * h] p (slices_head hh)) rotates_S512x128_d1) S)) bitsLt_bf16_f32

theorem inb_head {k : ℕ} (h : k < 16) : ∀ a : Fin 2, (![0, 128 * k] : Fin 2 → ℕ) a + S512x128.size a ≤ S512x3072.size a := by
  intro a; match a with
  | 0 => exact Nat.le_refl 512
  | 1 => show 128 * k + 128 ≤ 3072; omega

/-- The piece of one head: the queries' first, then the keys'. -/
def headPiece (u : FVec Ideal S512x2048 .bf16) (wq wk : FVec Ideal S2048x1024 .bf16) (cq sq ck sk : FVec Ideal S512x128 .f32) (k : ℕ) (h : k < 16) :
    View.Piece (Elt Ideal) S512x3072 .bf16 :=
  ⟨Rect.unit (s := S512x3072) ![0, 128 * k] S512x128.size (inb_head h),
    head (k0_pay32 u (pick wq wk (k / 8))) (k0_pay33 (pick cq ck (k / 8))) (k0_pay33 (pick sq sk (k / 8))) (k % 8) (Nat.mod_lt _ (by omega))⟩

/-- All pieces: the heads, then the values. -/
def qkvPiece (u : FVec Ideal S512x2048 .bf16) (wq wk wv : FVec Ideal S2048x1024 .bf16) (cq sq ck sk : FVec Ideal S512x128 .f32) (k : Fin 17) :
    View.Piece (Elt Ideal) S512x3072 .bf16 :=
  if h : k.val < 16 then headPiece u wq wk cq sq ck sk k.val h
  else ⟨Rect.unit (s := S512x3072) ![0, 2048] S512x1024.size (by intro a; fin_cases a <;> decide), k0_pay58 (F := Ideal) u wv⟩

/-- A hundred and twenty-eight columns of the table. -/
def tab (x : Vec Ideal S512x512 .f32) (off : ℕ) (h : off + 128 ≤ 512) : FVec Ideal S512x128 .f32 :=
  fun j => x (ix2 (j 0) ⟨off + (j 1).val, by have : (j 1).val < 128 := (j 1).isLt; omega⟩ : S512x512.Idx)

theorem read_tab (M : Memref sig .tc .vmem S512x512 .f32) (hM : M.IsWhole) (x : Vec Ideal S512x512 .f32) (off : ℕ) (h : off + 128 ≤ 512) (inb) :
    View.readAt (Elt Ideal) M.view (Rect.unit (s := S512x512) ![0, off] S512x128.size inb).toLoadRect (hM.unread x) = tab x off h := by
  funext j
  exact readAt_unit M hM x inb j _ fun a => by
    match a with
    | 0 => exact (Nat.zero_add _).symm
    | 1 => rfl

/-- What the point leaves, given its rows, its columns of the weights and its columns of the table. -/
def qkvOf (u : FVec Ideal S512x2048 .bf16) (w : Vec Ideal S2048x5120 .bf16) (x : Vec Ideal S512x512 .f32) : Vec Ideal S512x3072 .bf16 :=
  View.canon (Val := Elt Ideal) (upto (qkvPiece u (cols w 0 (by omega)) (cols w 1024 (by omega)) (cols w 2048 (by omega))
    (tab x 0 (by omega)) (tab x 128 (by omega)) (tab x 256 (by omega)) (tab x 384 (by omega))) 17 (Nat.le_refl 17))

section Runs

variable (c : Dev nD) (i : grid0.Coords)
  (arg2 : Memref sig .tc .vmem S1x512x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x5120 .bf16) (harg6 : arg6.IsWhole) (arg7 : Memref sig .tc .vmem S512x512 .f32) (harg7 : arg7.IsWhole)
  (arg8 : Memref sig .tc .vmem S31x1024 .f32) (harg8 : arg8.IsWhole)
  (arg9 : Memref sig .tc .vmem S1x1024 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S512x3072 .bf16) (harg12 : arg12.IsWhole)
  (arg13 : Memref sig .tc .vmem S512x1024 .bf16) (harg13 : arg13.IsWhole) (arg14 : Memref sig .tc .vmem S512x2048 .bf16) (harg14 : arg14.IsWhole)
  (arg15 : Memref sig .tc .vmem S8x544x128 .f32) (harg15 : arg15.IsWhole) (arg16 : Memref sig .tc .vmem S8x32x128 .f32) (harg16 : arg16.IsWhole)
  (arg17 : Memref sig .tc .vmem S2x7x544x128 .f32) (harg17 : arg17.IsWhole) (arg18 : Memref sig .tc .vmem S512x1024 .f32) (harg18 : arg18.IsWhole)
  (x0 : Vec Ideal S1x512x2048 .f32) (x1 : Vec Ideal S1x2048 .f32) (x2 : Vec Ideal S1x1x2048 .f32) (x3 : Vec Ideal S1x1x2048 .f32)
  (x4 : Vec Ideal S2048x5120 .bf16) (x5 : Vec Ideal S512x512 .f32) (x6 : Vec Ideal S31x1024 .f32) (x7 : Vec Ideal S1x1024 .f32)
  (x8 : Vec Ideal S1x1024 .f32) (x9 : Vec Ideal S1x1024 .f32)

set_option maxHeartbeats 2000000 in
theorem out10A_eq (hc0 : cond0_0 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9
    = qkvOf (k0_pay3 x0 x1 x2 x3) x4 x5 := by
  unfold out0_A_10
  rw [View.read_writes_junk_eq_canon]
  unfold qkvOf
  rw [← uA_eq c arg2 harg2 arg3 harg3 arg4 harg4 arg5 harg5 arg14 x0 x1 x2 x3, ← read_cols arg6 harg6 x4 0 (by omega) inb_S2048x5120_S2048x1024_0_0,
    ← read_cols arg6 harg6 x4 1024 (by omega) inb_S2048x5120_S2048x1024_0_1024, ← read_cols arg6 harg6 x4 2048 (by omega) inb_S2048x5120_S2048x1024_0_2048,
    ← read_tab arg7 harg7 x5 0 (by omega) inb_S512x512_S512x128_0_0, ← read_tab arg7 harg7 x5 128 (by omega) inb_S512x512_S512x128_0_128,
    ← read_tab arg7 harg7 x5 256 (by omega) inb_S512x512_S512x128_0_256, ← read_tab arg7 harg7 x5 384 (by omega) inb_S512x512_S512x128_0_384]
  refine congrArg (View.canon (Val := Elt Ideal)) ?_
  unfold kernelRun0_A
  dsimp only
  unfold upto
  refine congrArg₂ List.cons ?_ ?_
  · unfold qkvPiece
    rw [dif_neg (by decide)]
  iterate 16
    unfold upto
    refine congrArg₂ List.cons ?_ ?_
    · unfold qkvPiece
      rw [dif_pos (by decide)]
      rfl
  rfl

set_option maxHeartbeats 2000000 in
theorem out10B_eq (hc0 : ¬cond0_0 i) (xs2 : Vec Ideal S8x32x128 .f32) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs2
    = qkvOf (k0_pay3 x0 x1 x2 x3) x4 x5 := by
  unfold out0_B_10
  rw [View.read_writes_junk_eq_canon]
  unfold qkvOf
  rw [← uB_eq c arg2 harg2 arg3 harg3 arg4 harg4 arg5 harg5 arg14 x0 x1 x2 x3, ← read_cols arg6 harg6 x4 0 (by omega) inb_S2048x5120_S2048x1024_0_0,
    ← read_cols arg6 harg6 x4 1024 (by omega) inb_S2048x5120_S2048x1024_0_1024, ← read_cols arg6 harg6 x4 2048 (by omega) inb_S2048x5120_S2048x1024_0_2048,
    ← read_tab arg7 harg7 x5 0 (by omega) inb_S512x512_S512x128_0_0, ← read_tab arg7 harg7 x5 128 (by omega) inb_S512x512_S512x128_0_128,
    ← read_tab arg7 harg7 x5 256 (by omega) inb_S512x512_S512x128_0_256, ← read_tab arg7 harg7 x5 384 (by omega) inb_S512x512_S512x128_0_384]
  refine congrArg (View.canon (Val := Elt Ideal)) ?_
  unfold kernelRun0_B
  dsimp only
  unfold upto
  refine congrArg₂ List.cons ?_ ?_
  · unfold qkvPiece
    rw [dif_neg (by decide)]
  iterate 16
    unfold upto
    refine congrArg₂ List.cons ?_ ?_
    · unfold qkvPiece
      rw [dif_pos (by decide)]
      rfl
  rfl

end Runs

/-! ## Elements -/

/-- One head's element: its column times the first factor, and the column half a head away times the second. -/
theorem head_val (p : FVec Ideal S512x1024 .f32) (C S : FVec Ideal S512x128 .f32) (h : ℕ) (hh : h < 8) (row : Fin 512) (l : Fin 128) :
    head p C S h hh (ix2 row l : S512x128.Idx) = p (ix2 row ⟨128 * h + l.val, by omega⟩ : S512x1024.Idx) * C (ix2 row l : S512x128.Idx)
      + p (ix2 row ⟨128 * h + (l.val + 64) % 128, by omega⟩ : S512x1024.Idx) * S (ix2 row l : S512x128.Idx) := by
  pointwise [head]
  simp only [show l.val + 128 - 64 = l.val + 64 by omega]

/-- A head's columns of what the point leaves. -/
theorem qkv_head (u : FVec Ideal S512x2048 .bf16) (w : Vec Ideal S2048x5120 .bf16) (x : Vec Ideal S512x512 .f32) (row : Fin 512) (k : ℕ) (hk : k < 16) (l : Fin 128) :
    qkvOf u w x (ix2 row ⟨128 * k + l.val, by omega⟩ : S512x3072.Idx) =
      head (k0_pay32 u (pick (cols w 0 (by omega)) (cols w 1024 (by omega)) (k / 8))) (k0_pay33 (pick (tab x 0 (by omega)) (tab x 256 (by omega)) (k / 8)))
        (k0_pay33 (pick (tab x 128 (by omega)) (tab x 384 (by omega)) (k / 8))) (k % 8) (Nat.mod_lt _ (by omega)) (ix2 row l : S512x128.Idx) := by
  unfold qkvOf
  refine canon_upto _ _ _ ⟨k, by omega⟩ ?_ 17 _ (by show k < 17; omega) fun j hj _ => ?_
  · unfold qkvPiece
    rw [dif_pos (by exact hk)]
    exact mem_unit (Val := Elt Ideal) (e := .bf16) (inb_head hk) _ (fun a => by
      match a with
      | 0 => exact ⟨Nat.zero_le _, (Nat.zero_add 512).symm ▸ row.isLt⟩
      | 1 => exact ⟨Nat.le_add_right _ _, Nat.add_lt_add_left l.isLt _⟩)
  · unfold qkvPiece
    split
    case isTrue h =>
      refine holds_unit _ _ fun y hy => ?_
      obtain ⟨a, b, rfl⟩ : ∃ a b, y = (ix2 a b : S512x128.Idx) := ⟨y 0, y 1, eq_ix2 y⟩
      have h0 : row.val = 0 + a.val := hy 0
      have h1 : 128 * k + l.val = 128 * j.val + b.val := hy 1
      have hj' : k ≤ j.val := hj
      obtain rfl : a = row := Fin.ext (by omega)
      obtain ⟨j, hj''⟩ := j
      obtain rfl : j = k := by show j = k; simp only at *; omega
      obtain rfl : b = l := Fin.ext (by simp only at *; omega)
      rfl
    case isFalse h =>
      refine holds_unit _ _ fun y hy => ?_
      have h1 : 128 * k + l.val = 2048 + (y 1).val := hy 1
      omega

/-- The values' columns of what the point leaves. -/
theorem qkv_value (u : FVec Ideal S512x2048 .bf16) (w : Vec Ideal S2048x5120 .bf16) (x : Vec Ideal S512x512 .f32) (row : Fin 512) (j : Fin 1024) :
    qkvOf u w x (ix2 row ⟨2048 + j.val, by omega⟩ : S512x3072.Idx) = k0_pay58 (F := Ideal) u (cols w 2048 (by omega)) (ix2 row j : S512x1024.Idx) := by
  unfold qkvOf
  refine canon_upto _ _ _ ⟨16, by omega⟩ ?_ 17 _ (by decide) fun i hi _ => ?_
  · unfold qkvPiece
    rw [dif_neg (by decide)]
    exact mem_unit (Val := Elt Ideal) (e := .bf16) _ _ (fun a => by
      match a with
      | 0 => exact ⟨Nat.zero_le _, (Nat.zero_add 512).symm ▸ row.isLt⟩
      | 1 => exact ⟨Nat.le_add_right _ _, Nat.add_lt_add_left j.isLt _⟩)
  · unfold qkvPiece
    have hi' : 16 ≤ i.val := hi
    rw [dif_neg (by omega)]
    refine holds_unit _ _ fun y hy => ?_
    obtain ⟨a, b, rfl⟩ : ∃ a b, y = (ix2 a b : S512x1024.Idx) := ⟨y 0, y 1, eq_ix2 y⟩
    have h0 : row.val = 0 + a.val := hy 0
    have h1 : 2048 + j.val = 2048 + b.val := hy 1
    obtain rfl : a = row := Fin.ext (by omega)
    obtain rfl : b = j := Fin.ext (by omega)
    rfl

end Cert.InprojIdeal.Stage
-- ==== Proof.InprojRef.lean ====
/-
What the reference of the input projection computes, in named stages: the projection of the modulated rows, the
convolution module over the gated channels as a sum of shifted products, and the heads' rows.
-/
module

public import proofs.«01_k».proof.Proof.InprojValue
public import proofs.«01_k».proof.Proof.Gen.InprojRefIdeal.Run

@[expose] public section

set_option maxRecDepth 16384

noncomputable section

open Idealize.ShloMosaic Idealize.ShloMosaic.TcCoe Idealize.SL.Sem

namespace Cert.InprojRefIdeal.Stage

open Cert.InprojRefIdeal Cert.InprojRefIdeal.Gen Cert.InprojRefIdeal.Value
open Cert.InprojIdeal.Stage (fold)

/-- One row's factor of the root-mean-square normalisation. -/
def rms (h : FVec Ideal S16x2048x2048 .f32) : FVec Ideal S16x2048x1 .f32 :=
  Host.rsqrt (addf (Host.divf (broadcastInDim S16x2048x1 ![0, 1] bcast_S16x2048_S16x2048x1_0_1
      (Host.reduceAdd (mulf h h) (constant S_ .f32 0x00000000#32) reducesTo_S16x2048x2048_S16x2048_d2 h_S_))
      (broadcastInDim S16x2048x1 ![] bcast_S_S16x2048x1 (constant S_ .f32 0x45000000#32)))
    (broadcastInDim S16x2048x1 ![] bcast_S_S16x2048x1 (constant S_ .f32 0x358637BD#32)))

/-- The modulated rows. -/
def modu (h : FVec Ideal S16x2048x2048 .f32) (g : FVec Ideal S2048 .f32) (sh sc : FVec Ideal S16x2048 .f32) : FVec Ideal S16x2048x2048 .f32 :=
  addf (mulf (mulf (mulf h (broadcastInDim S16x2048x2048 ![0, 1, 2] bcast_S16x2048x1_S16x2048x2048_0_1_2 (rms h)))
      (broadcastInDim S16x2048x2048 ![0, 1, 2] bcast_S1x1x2048_S16x2048x2048_0_1_2 (broadcastInDim S1x1x2048 ![2] bcast_S2048_S1x1x2048_2 g)))
      (broadcastInDim S16x2048x2048 ![0, 1, 2] bcast_S16x1x2048_S16x2048x2048_0_1_2
        (addf (broadcastInDim S16x1x2048 ![] bcast_S_S16x1x2048 (constant S_ .f32 0x3F800000#32)) (broadcastInDim S16x1x2048 ![0, 2] bcast_S16x2048_S16x1x2048_0_2 sc))))
    (broadcastInDim S16x2048x2048 ![0, 1, 2] bcast_S16x1x2048_S16x2048x2048_0_1_2 (broadcastInDim S16x1x2048 ![0, 2] bcast_S16x2048_S16x1x2048_0_2 sh))

/-- The projection: all columns of the modulated rows times the weights. -/
def proj (h : FVec Ideal S16x2048x2048 .f32) (g : FVec Ideal S2048 .f32) (sh sc : FVec Ideal S16x2048 .f32) (w : FVec Ideal S2048x5120 .bf16) :
    FVec Ideal S16x2048x5120 .f32 :=
  Host.dotGeneral dot_S16x2048x2048_S2048x5120_S16x2048x5120_2_0_01_1_n_n none (modu h g sh sc) (extf .f32 w bitsLt_bf16_f32)

/-- The gated channels. -/
def gated (P : FVec Ideal S16x2048x5120 .f32) : FVec Ideal S16x2048x1024 .f32 :=
  mulf (extractStridedSlice S16x2048x1024 ![0, 0, 3072] P slices_S16x2048x5120_S16x2048x1024_0_0_3072)
    (Host.divf (broadcastInDim S16x2048x1024 ![] bcast_S_S16x2048x1024 (constant S_ .f32 0x3F800000#32))
      (addf (broadcastInDim S16x2048x1024 ![] bcast_S_S16x2048x1024 (constant S_ .f32 0x3F800000#32))
        (Host.exp (Host.negf (extractStridedSlice S16x2048x1024 ![0, 0, 4096] P slices_S16x2048x5120_S16x2048x1024_0_0_4096)))))

/-- The gated channels after thirty rows of zeros. -/
def padded (u : FVec Ideal S16x2048x1024 .f32) : FVec Ideal S16x2078x1024 .f32 :=
  pad S16x2078x1024 ![0, 30, 0] ![0, 0, 0] ![0, 0, 0] u (sitofp .f32 (constantI S_ 32 0#32)) pads_S16x2048x1024_S16x2078x1024_000_3000_000 h_S_

theorem slices_padded {n : ℕ} (h : n < 31) : S16x2078x1024.Slices ![0, n, 0] S16x2048x1024 := by
  interval_cases n <;> decide

theorem slices_weights {n : ℕ} (h : n < 31) : S31x1024.Slices ![n, 0] S1x1024 := by
  interval_cases n <;> decide

/-- The first `n` shifted products added up. -/
def taps (v : FVec Ideal S16x2078x1024 .f32) (w : FVec Ideal S31x1024 .f32) : (n : ℕ) → n ≤ 31 → FVec Ideal S16x2048x1024 .f32
  | 0, _ => broadcastInDim S16x2048x1024 ![] bcast_S_S16x2048x1024 (constant S_ .f32 0x00000000#32)
  | n + 1, hn => addf (taps v w n (Nat.le_of_succ_le hn)) (mulf (extractStridedSlice S16x2048x1024 ![0, n, 0] v (slices_padded hn))
      (broadcastInDim S16x2048x1024 ![0, 1, 2] bcast_S1x1x1024_S16x2048x1024_0_1_2 (broadcastInDim S1x1x1024 ![2] bcast_S1024_S1x1x1024_2
        (shapeCast S1024 (extractStridedSlice S1x1024 ![n, 0] w (slices_weights hn)) shapeCasts_S1x1024_S1024))))

/-- The convolution with its bias. -/
def convd (P : FVec Ideal S16x2048x5120 .f32) (w : FVec Ideal S31x1024 .f32) (b : FVec Ideal S1024 .f32) : FVec Ideal S16x2048x1024 .f32 :=
  addf (taps (padded (gated P)) w 31 (Nat.le_refl 31))
    (broadcastInDim S16x2048x1024 ![0, 1, 2] bcast_S1x1x1024_S16x2048x1024_0_1_2 (broadcastInDim S1x1x1024 ![2] bcast_S1024_S1x1x1024_2 b))

/-- The rows' means. -/
def mean (z : FVec Ideal S16x2048x1024 .f32) : FVec Ideal S16x2048x1 .f32 :=
  Host.divf (broadcastInDim S16x2048x1 ![0, 1] bcast_S16x2048_S16x2048x1_0_1 (Host.reduceAdd z (constant S_ .f32 0x00000000#32) reducesTo_S16x2048x1024_S16x2048_d2 h_S_))
    (broadcastInDim S16x2048x1 ![] bcast_S_S16x2048x1 (constant S_ .f32 0x44800000#32))

/-- The rows less their means. -/
def centred (z : FVec Ideal S16x2048x1024 .f32) : FVec Ideal S16x2048x1024 .f32 :=
  subf z (broadcastInDim S16x2048x1024 ![0, 1, 2] bcast_S16x2048x1_S16x2048x1024_0_1_2 (mean z))

/-- The layer normalisation with its gain and bias. -/
def normed (z : FVec Ideal S16x2048x1024 .f32) (g b : FVec Ideal S1024 .f32) : FVec Ideal S16x2048x1024 .f32 :=
  addf (mulf (mulf (centred z) (broadcastInDim S16x2048x1024 ![0, 1, 2] bcast_S16x2048x1_S16x2048x1024_0_1_2
      (Host.rsqrt (addf (Host.divf (broadcastInDim S16x2048x1 ![0, 1] bcast_S16x2048_S16x2048x1_0_1
          (Host.reduceAdd (mulf (centred z) (centred z)) (constant S_ .f32 0x00000000#32) reducesTo_S16x2048x1024_S16x2048_d2 h_S_))
          (broadcastInDim S16x2048x1 ![] bcast_S_S16x2048x1 (constant S_ .f32 0x44800000#32)))
        (broadcastInDim S16x2048x1 ![] bcast_S_S16x2048x1 (constant S_ .f32 0x358637BD#32))))))
      (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 b))

/-- The convolution module's rows: normalised, then times their own sigmoid. -/
def convRows (z : FVec Ideal S16x2048x1024 .f32) (g b : FVec Ideal S1024 .f32) : FVec Ideal S32768x1024 .bf16 :=
  truncf .bf16 (shapeCast S32768x1024 (mulf (normed z g b)
    (Host.divf (broadcastInDim S16x2048x1024 ![] bcast_S_S16x2048x1024 (constant S_ .f32 0x3F800000#32))
      (addf (broadcastInDim S16x2048x1024 ![] bcast_S_S16x2048x1024 (constant S_ .f32 0x3F800000#32)) (Host.exp (Host.negf (normed z g b))))))
    shapeCasts_S16x2048x1024_S32768x1024) bitsLt_bf16_f32

/-- The angles of the rotation: position times frequency. -/
def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- A quarter of an angle table over all heads. -/
def spread (v : FVec Ideal S2048x64 .f32) : FVec Ideal S16x8x2048x64 .f32 :=
  broadcastInDim S16x8x2048x64 ![0, 1, 2, 3] bcast_S1x1x2048x64_S16x8x2048x64_0_1_2_3 (broadcastInDim S1x1x2048x64 ![2, 3] bcast_S2048x64_S1x1x2048x64_2_3 v)

/-- Rows cut into heads. -/
def heads (q : FVec Ideal S16x2048x1024 .f32) : FVec Ideal S16x8x2048x128 .f32 :=
  transpose S16x8x2048x128 [0, 2, 1, 3] (shapeCast S16x2048x8x128 q shapeCasts_S16x2048x1024_S16x2048x8x128) transposes_S16x2048x8x128_S16x8x2048x128_0_2_1_3

/-- A head's first half. -/
def lower (h : FVec Ideal S16x8x2048x128 .f32) : FVec Ideal S16x8x2048x64 .f32 := extractStridedSlice S16x8x2048x64 ![0, 0, 0, 0] h slices_S16x8x2048x128_S16x8x2048x64_0_0_0_0

/-- A head's second half. -/
def upper (h : FVec Ideal S16x8x2048x128 .f32) : FVec Ideal S16x8x2048x64 .f32 := extractStridedSlice S16x8x2048x64 ![0, 0, 0, 64] h slices_S16x8x2048x128_S16x8x2048x64_0_0_0_64

/-- The heads rotated by the angles, back in rows. -/
def rotated (q : FVec Ideal S16x2048x1024 .f32) : FVec Ideal S32768x1024 .f32 :=
  shapeCast S32768x1024 (transpose S16x2048x8x128 [0, 2, 1, 3] (fn_main_v60 (F := Ideal)
      (subf (mulf (lower (heads q)) (spread (Host.cos angles))) (mulf (upper (heads q)) (spread (Host.sin angles))))
      (addf (mulf (upper (heads q)) (spread (Host.cos angles))) (mulf (lower (heads q)) (spread (Host.sin angles)))))
    transposes_S16x8x2048x128_S16x2048x8x128_0_2_1_3) shapeCasts_S16x2048x8x128_S32768x1024

/-- The scaled queries, the keys and the values side by side. -/
def qkvRows (P : FVec Ideal S16x2048x5120 .f32) : FVec Ideal S32768x3072 .bf16 :=
  truncf .bf16 (fn_main_v100 (F := Ideal)
    (mulf (rotated (extractStridedSlice S16x2048x1024 ![0, 0, 0] P slices_S16x2048x5120_S16x2048x1024_0_0_0))
      (broadcastInDim S32768x1024 ![] bcast_S_S32768x1024 (constant S_ .f32 0x3E0293EE#32)))
    (rotated (extractStridedSlice S16x2048x1024 ![0, 0, 1024] P slices_S16x2048x5120_S16x2048x1024_0_0_1024))
    (shapeCast S32768x1024 (extractStridedSlice S16x2048x1024 ![0, 0, 2048] P slices_S16x2048x5120_S16x2048x1024_0_0_2048) shapeCasts_S16x2048x1024_S32768x1024))
    bitsLt_bf16_f32

variable (V : Valuation τ sig (Elt Ideal))

/-- The projection of the run's arguments. -/
abbrev projV : FVec Ideal S16x2048x5120 .f32 := proj (V (Proc.devRef .tc main_arg0)) (V (Proc.devRef .tc main_arg1)) (V (Proc.devRef .tc main_arg2))
  (V (Proc.devRef .tc main_arg3)) (V (Proc.devRef .tc main_arg4))

theorem v23_eq : res_main_v23 V = projV V := rfl

theorem v108_eq : res_main_v108 V = padded (gated (projV V)) := rfl

theorem v179_eq : res_main_v179 V = taps (res_main_v108 V) (V (Proc.devRef .tc main_arg5)) 10 (by omega) := rfl

theorem taps_add (v : FVec Ideal S16x2078x1024 .f32) (w : FVec Ideal S31x1024 .f32) (n : ℕ) (hn : n < 31) :
    taps v w (n + 1) hn = addf (taps v w n (Nat.le_of_succ_le hn)) (mulf (extractStridedSlice S16x2048x1024 ![0, n, 0] v (slices_padded hn))
      (broadcastInDim S16x2048x1024 ![0, 1, 2] bcast_S1x1x1024_S16x2048x1024_0_1_2 (broadcastInDim S1x1x1024 ![2] bcast_S1024_S1x1x1024_2
        (shapeCast S1024 (extractStridedSlice S1x1024 ![n, 0] w (slices_weights hn)) shapeCasts_S1x1024_S1024)))) := rfl

theorem v256_eq : res_main_v256 V = taps (res_main_v108 V) (V (Proc.devRef .tc main_arg5)) 21 (by omega) := by
  unfold res_main_v256
  rw [v179_eq]
  rfl

theorem v329_eq : res_main_v329 V = convd (projV V) (V (Proc.devRef .tc main_arg5)) (V (Proc.devRef .tc main_arg6)) := by
  unfold res_main_v329
  rw [v256_eq, v108_eq]
  rfl

/-- The padded channels, element by element. -/
theorem padded_val (u : FVec Ideal S16x2048x1024 .f32) (b : Fin 16) (r : Fin 2078) (ch : Fin 1024) :
    padded u (ix3 b r ch : S16x2078x1024.Idx) = if h : r.val < 30 then (0 : EReal) else u (ix3 b ⟨r.val - 30, by omega⟩ ch : S16x2048x1024.Idx) := by
  pointwise [padded]
  have z : (FloatOps.sitofp FTy.f32 0#32 : Ideal .f32) = (0 : EReal) := by
    show (((0#32 : BitVec 32).toInt : ℝ) : EReal) = 0
    simp
  by_cases h : r.val < 30
  · rw [dif_pos h, dif_neg (by omega)]
    exact z
  · rw [dif_neg h, dif_pos (by omega)]

theorem taps_val (v : FVec Ideal S16x2078x1024 .f32) (w : FVec Ideal S31x1024 .f32) (b : Fin 16) (r : Fin 2048) (ch : Fin 1024) (n : ℕ) (hn : n ≤ 31) :
    taps v w n hn (ix3 b r ch : S16x2048x1024.Idx) = fold 0 (fun j hj => v (ix3 b ⟨r.val + j, by omega⟩ ch : S16x2078x1024.Idx) * w (ix2 ⟨j, hj⟩ ch : S31x1024.Idx)) n hn := by
  induction n with
  | zero =>
    unfold taps fold
    pointwise
  | succ n ih =>
    unfold taps fold
    rw [← ih (Nat.le_of_succ_le hn)]
    pointwise
    rw [show (⟨n + r.val, by omega⟩ : Fin 2078) = ⟨r.val + n, by omega⟩ from Fin.ext (Nat.add_comm _ _)]

/-- Where a sum of products starts does not matter. -/
theorem fold_add (b : EReal) (p : (n : ℕ) → n < 31 → EReal) (n : ℕ) (hn : n ≤ 31) : fold 0 p n hn + b = fold b p n hn := by
  induction n with
  | zero => exact zero_add b
  | succ n ih =>
    show fold 0 p n _ + p n hn + b = fold b p n _ + p n hn
    rw [add_right_comm, ih]

theorem convd_val (P : FVec Ideal S16x2048x5120 .f32) (w : FVec Ideal S31x1024 .f32) (b : FVec Ideal S1024 .f32) (s : Fin 16) (r : Fin 2048) (ch : Fin 1024) :
    convd P w b (ix3 s r ch : S16x2048x1024.Idx) = fold (b (ix1 ch : S1024.Idx))
      (fun j hj => padded (gated P) (ix3 s ⟨r.val + j, by omega⟩ ch : S16x2078x1024.Idx) * w (ix2 ⟨j, hj⟩ ch : S31x1024.Idx)) 31 (Nat.le_refl 31) := by
  rw [← fold_add, ← taps_val]
  pointwise [convd]

end Cert.InprojRefIdeal.Stage
-- ==== Proof.InprojRows.lean ====
/-
One block of the input projection's rows, element by element against the reference's stages.
-/
module

public import proofs.«01_k».proof.Proof.InprojPoint
public import proofs.«01_k».proof.Proof.InprojRef

@[expose] public section

set_option maxRecDepth 16384

noncomputable section

open Idealize.ShloMosaic Idealize.ShloMosaic.TcCoe Idealize.SL.Sem
open Idealize.ShloMosaic.Pipeline (Dat)

namespace Cert.InprojIdeal.Stage

open Cert.InprojIdeal Cert.InprojIdeal.Gen
open Cert.InprojRefIdeal.Stage (rms modu proj gated padded convd convd_val padded_val)

variable (m : (ℓ : Loc nD τ sig) → Buf (Elt Ideal) ℓ)

/-- The windows' block indices at a point of the grid. -/
theorem idx : ∀ t : Fin cfg0.N, win0_0.index t = ![t.val / 4, t.val % 4, 0] ∧ win0_1.index t = ![0, 0] ∧ win0_2.index t = ![t.val / 4, 0, 0]
    ∧ win0_3.index t = ![t.val / 4, 0, 0] ∧ win0_4.index t = ![0, 0] ∧ win0_5.index t = ![t.val % 4, 0] ∧ win0_6.index t = ![0, 0]
    ∧ win0_7.index t = ![0, 0] ∧ win0_8.index t = ![0, 0] ∧ win0_9.index t = ![0, 0] ∧ win0_10.index t = ![t.val, 0] ∧ win0_11.index t = ![t.val, 0] :=
  (by decide +kernel : ∀ t : Fin grid0.N, _)

theorem pts (t : Fin cfg0.N) : t.val < 64 := t.isLt

/-! ## The modulated rows and their projections -/

/-- The reference's projection of the call's arguments. -/
abbrev projM (c : Dev nD) : FVec Ideal Cert.InprojRefIdeal.S16x2048x5120 .f32 :=
  proj (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A block's modulated rows. -/
abbrev uAt (c : Dev nD) (t : Fin cfg0.N) : FVec Ideal S512x2048 .bf16 := k0_pay3 (iblk m c 0 t) (iblk m c 1 t) (iblk m c 2 t) (iblk m c 3 t)

/-- A block's gated channels. -/
abbrev gluAt (c : Dev nD) (t : Fin cfg0.N) : FVec Ideal S512x1024 .f32 := gluOf (uAt m c t) (iblk m c 4 t)

theorem uAt_val (c : Dev nD) (t : Fin cfg0.N) (row : Fin 512) (k : Fin 2048) :
    uAt m c t (ix2 row k : S512x2048.Idx) =
      modu (m ((c.tc : Thread nD τ).loc main_arg0)) (m ((c.tc : Thread nD τ).loc main_arg1)) (m ((c.tc : Thread nD τ).loc main_arg2)) (m ((c.tc : Thread nD τ).loc main_arg3))
        (ix3 ⟨t.val / 4, by have := pts t; omega⟩ ⟨512 * (t.val % 4) + row.val, by omega⟩ k : Cert.InprojRefIdeal.S16x2048x2048.Idx) := by
  pointwise [k0_pay3, modu, rms]
  blk_point [iblk, idx t]

theorem weights_val (c : Dev nD) (t : Fin cfg0.N) (x : Fin 2048) (j : Fin 5120) :
    iblk m c 4 t (ix2 x j : S2048x5120.Idx) = m ((c.tc : Thread nD τ).loc main_arg4) (ix2 x j : S2048x5120.Idx) := by
  blk_point [iblk, idx t]

theorem taps_val (c : Dev nD) (t : Fin cfg0.N) (x : Fin 31) (j : Fin 1024) :
    iblk m c 6 t (ix2 x j : S31x1024.Idx) = m ((c.tc : Thread nD τ).loc main_arg5) (ix2 x j : S31x1024.Idx) := by
  blk_point [iblk, idx t]

theorem bias_val (c : Dev nD) (t : Fin cfg0.N) (j : Fin 1024) :
    iblk m c 7 t (ix2 0 j : S1x1024.Idx) = m ((c.tc : Thread nD τ).loc main_arg6) (ix1 j : S1024.Idx) := by
  blk_point [iblk, idx t]

theorem normGain_val (c : Dev nD) (t : Fin cfg0.N) (j : Fin 1024) :
    iblk m c 8 t (ix2 0 j : S1x1024.Idx) = m ((c.tc : Thread nD τ).loc main_arg7) (ix1 j : S1024.Idx) := by
  blk_point [iblk, idx t]

theorem normBias_val (c : Dev nD) (t : Fin cfg0.N) (j : Fin 1024) :
    iblk m c 9 t (ix2 0 j : S1x1024.Idx) = m ((c.tc : Thread nD τ).loc main_arg8) (ix1 j : S1024.Idx) := by
  blk_point [iblk, idx t]

theorem ix3_congr {a a' : Fin 16} {b b' : Fin 2048} {d d' : Fin 1024} (ha : a.val = a'.val) (hb : b.val = b'.val) (hd : d.val = d'.val) :
    (ix3 a b d : Cert.InprojRefIdeal.S16x2048x1024.Idx) = ix3 a' b' d' := by
  obtain rfl := Fin.ext ha
  obtain rfl := Fin.ext hb
  obtain rfl := Fin.ext hd
  rfl

/-- A block's rows times a thousand and twenty-four columns of the weights are the reference's projection. -/
theorem proj_val (c : Dev nD) (t : Fin cfg0.N) (off : ℕ) (h : off + 1024 ≤ 5120) (row : Fin 512) (j : Fin 1024) :
    matmul dot_S512x2048_S2048x1024_S512x1024_1_0_0_1_n_n none (uAt m c t) (cols (iblk m c 4 t) off h) (constant S512x1024 .f32 0x00000000#32) (ix2 row j : S512x1024.Idx) =
      projM m c (ix3 ⟨t.val / 4, by have := pts t; omega⟩ ⟨512 * (t.val % 4) + row.val, by omega⟩ ⟨off + j.val, by omega⟩ : Cert.InprojRefIdeal.S16x2048x5120.Idx) := by
  have hu := uAt_val m c t row
  generalize uAt m c t = u at *
  unfold projM proj
  generalize modu (m ((c.tc : Thread nD τ).loc main_arg0)) (m ((c.tc : Thread nD τ).loc main_arg1)) (m ((c.tc : Thread nD τ).loc main_arg2)) (m ((c.tc : Thread nD τ).loc main_arg3)) = M at *
  pointwise [cols]
  refine Finset.sum_congr rfl fun x _ => ?_
  rw [hu x]
  exact congrArg (M _ * ·) (weights_val m c t x ⟨off + j.val, by omega⟩)

/-- A block's gated channels are the reference's. -/
theorem gluAt_val (c : Dev nD) (t : Fin cfg0.N) (row : Fin 512) (ch : Fin 1024) :
    gluAt m c t (ix2 row ch : S512x1024.Idx) =
      gated (projM m c) (ix3 ⟨t.val / 4, by have := pts t; omega⟩ ⟨512 * (t.val % 4) + row.val, by omega⟩ ch : Cert.InprojRefIdeal.S16x2048x1024.Idx) := by
  have a := proj_val m c t 3072 (by omega) row ch
  have b := proj_val m c t 4096 (by omega) row ch
  unfold gluAt gluOf k0_pay4
  generalize projM m c = P at *
  generalize matmul dot_S512x2048_S2048x1024_S512x1024_1_0_0_1_n_n none (uAt m c t) (cols (iblk m c 4 t) 3072 (by omega)) (constant S512x1024 .f32 0x00000000#32) = A at *
  generalize matmul dot_S512x2048_S2048x1024_S512x1024_1_0_0_1_n_n none (uAt m c t) (cols (iblk m c 4 t) 4096 (by omega)) (constant S512x1024 .f32 0x00000000#32) = B at *
  pointwise [gated, Ideal.logistic]
  rw [a, b]

/-! ## The convolution -/

/-- The rows a block finds before its own: zeros at a sequence's start, else the last rows of the block before. -/
theorem convd_block (c : Dev nD) (t : Fin cfg0.N) (H : Fin 8 → Vec Ideal S1x32x128 .f32)
    (h0 : t.val % 4 = 0 → ∀ cs r l, H cs (ix3 0 r l : S1x32x128.Idx) = 0)
    (h1 : (h : ¬ t.val % 4 = 0) → ∀ (cs : Fin 8) (r : Fin 32) (l : Fin 128), H cs (ix3 0 r l : S1x32x128.Idx) =
      gluAt m c ⟨t.val - 1, by have := t.isLt; omega⟩ (ix2 ⟨480 + r.val, by omega⟩ ⟨128 * cs.val + l.val, by omega⟩ : S512x1024.Idx))
    (row : Fin 512) (ch : Fin 1024) :
    zOf H (gluAt m c t) (iblk m c 6 t) (iblk m c 7 t) (ix2 row ch : S512x1024.Idx) =
      convd (projM m c) (m ((c.tc : Thread nD τ).loc main_arg5)) (m ((c.tc : Thread nD τ).loc main_arg6))
        (ix3 ⟨t.val / 4, by have := pts t; omega⟩ ⟨512 * (t.val % 4) + row.val, by omega⟩ ch : Cert.InprojRefIdeal.S16x2048x1024.Idx) := by
  have ht := pts t
  rw [convd_val]
  show conv H (gluAt m c t) (iblk m c 6 t) (iblk m c 7 t) row ch = _
  unfold conv
  rw [bias_val m c t ch]
  congr 1
  funext j hj
  rw [taps_val m c t ⟨j, hj⟩ ch]
  congr 1
  show win H (gluAt m c t) _ _ _ = _
  rw [padded_val]
  unfold win
  by_cases hr : row.val + j + 2 < 32
  · rw [dif_pos hr]
    by_cases h : t.val % 4 = 0
    · rw [h0 h, dif_pos (by show 512 * (t.val % 4) + row.val + j < 30; omega)]
    · rw [h1 h, gluAt_val, dif_neg (by show ¬ 512 * (t.val % 4) + row.val + j < 30; omega)]
      exact congrArg (gated (projM m c)) (ix3_congr (by show (t.val - 1) / 4 = t.val / 4; omega)
        (by show 512 * ((t.val - 1) % 4) + (480 + (row.val + j + 2)) = 512 * (t.val % 4) + row.val + j - 30; omega)
        (by show 128 * (ch.val / 128) + ch.val % 128 = ch.val; omega))
  · rw [dif_neg hr, gluAt_val, dif_neg (by show ¬ 512 * (t.val % 4) + row.val + j < 30; omega)]
    exact congrArg (gated (projM m c)) (ix3_congr rfl
        (by show 512 * (t.val % 4) + (row.val + j + 2 - 32) = 512 * (t.val % 4) + row.val + j - 30; omega)
        (by show 128 * (ch.val / 128) + ch.val % 128 = ch.val; omega))

end Cert.InprojIdeal.Stage
-- ==== Proof.InprojTable.lean ====
/-
The rotation: the table of cosines and sines the input projection's call finds, and the reference's rotated heads,
element by element.
-/
module

public import proofs.«01_k».proof.Proof.InprojRows

@[expose] public section

set_option maxRecDepth 16384

noncomputable section

open Idealize.ShloMosaic Idealize.ShloMosaic.TcCoe Idealize.SL.Sem

namespace Cert.InprojRefIdeal.Stage

open Cert.InprojRefIdeal Cert.InprojRefIdeal.Gen Cert.InprojRefIdeal.Value

/-- The rotated heads, element by element. -/
theorem rotated_val (q : FVec Ideal S16x2048x1024 .f32) (b : Fin 16) (s : Fin 2048) (h : ℕ) (hh : h < 8) (l : Fin 128) :
    rotated q (ix2 ⟨2048 * b.val + s.val, by omega⟩ ⟨128 * h + l.val, by omega⟩ : S32768x1024.Idx) =
      if hl : l.val < 64 then
        q (ix3 b s ⟨128 * h + l.val, by omega⟩ : S16x2048x1024.Idx) * Ideal.cos (angles (ix2 s ⟨l.val, hl⟩ : S2048x64.Idx))
          - q (ix3 b s ⟨128 * h + (l.val + 64), by omega⟩ : S16x2048x1024.Idx) * Ideal.sin (angles (ix2 s ⟨l.val, hl⟩ : S2048x64.Idx))
      else
        q (ix3 b s ⟨128 * h + l.val, by omega⟩ : S16x2048x1024.Idx) * Ideal.cos (angles (ix2 s ⟨l.val - 64, by omega⟩ : S2048x64.Idx))
          + q (ix3 b s ⟨128 * h + (l.val - 64), by omega⟩ : S16x2048x1024.Idx) * Ideal.sin (angles (ix2 s ⟨l.val - 64, by omega⟩ : S2048x64.Idx)) := by
  unfold rotated
  generalize angles = A
  pointwise [fn_main_v60, lower, upper, heads, spread]
  have e : (128 * h + l.val) / 128 = h := by omega
  by_cases hl : l.val < 64
  · simp only [dif_pos hl, e, Nat.mul_comm h 128, Nat.add_comm 64 l.val]
  · simp only [dif_neg hl, e, Nat.mul_comm h 128, Nat.add_sub_cancel' (Nat.le_of_not_lt hl)]

end Cert.InprojRefIdeal.Stage

namespace Cert.InprojIdeal.Stage

open Cert.InprojIdeal Cert.InprojIdeal.Gen
open Cert.InprojRefIdeal.Stage (angles)

variable (m : (ℓ : Loc nD τ sig) → Buf (Elt Ideal) ℓ)

/-- The cosines, twice over. -/
def cosF : FVec Ideal S2048x128 .f32 :=
  concatenate S2048x128 1 [⟨S2048x64, Host.cos angles⟩, ⟨S2048x64, Host.cos angles⟩] concatenates_S2048x64_S2048x64_S2048x128_d1

/-- The sines, first negated, then plain. -/
def sinF : FVec Ideal S2048x128 .f32 :=
  concatenate S2048x128 1 [⟨S2048x64, Host.negf (Host.sin angles)⟩, ⟨S2048x64, Host.sin angles⟩] concatenates_S2048x64_S2048x64_S2048x128_d1

/-- The scale of the queries. -/
def scaleF : FVec Ideal S2048x128 .f32 := broadcastInDim S2048x128 ![] bcast_S_S2048x128 (constant S_ .f32 0x3E0293EE#32)

/-- The table the call finds. -/
def table : FVec Ideal S2048x512 .f32 :=
  concatenate S2048x512 1 [⟨S2048x128, mulf cosF scaleF⟩, ⟨S2048x128, mulf sinF scaleF⟩, ⟨S2048x128, cosF⟩, ⟨S2048x128, sinF⟩]
    concatenates_S2048x128_S2048x128_S2048x128_S2048x128_S2048x512_d1

theorem entry_table (c : Dev nD) : V m c main_v23 = table := by
  unfold_abbrev_sides; after_results; rfl

theorem cosF_val (s : Fin 2048) (l : Fin 128) : cosF (ix2 s l : S2048x128.Idx) =
    if hl : l.val < 64 then Ideal.cos (angles (ix2 s ⟨l.val, hl⟩ : Cert.InprojRefIdeal.S2048x64.Idx))
    else Ideal.cos (angles (ix2 s ⟨l.val - 64, by omega⟩ : Cert.InprojRefIdeal.S2048x64.Idx)) := by
  unfold cosF
  generalize angles = A
  pointwise

theorem sinF_val (s : Fin 2048) (l : Fin 128) : sinF (ix2 s l : S2048x128.Idx) =
    if hl : l.val < 64 then -Ideal.sin (angles (ix2 s ⟨l.val, hl⟩ : Cert.InprojRefIdeal.S2048x64.Idx))
    else Ideal.sin (angles (ix2 s ⟨l.val - 64, by omega⟩ : Cert.InprojRefIdeal.S2048x64.Idx)) := by
  unfold sinF
  generalize angles = A
  pointwise

/-- The scale as an extended real. -/
def scale : EReal := Ideal.ofBits .f32 0x3E0293EE#32

theorem table_val (s : Fin 2048) (l : Fin 128) :
    table (ix2 s ⟨0 + l.val, by omega⟩ : S2048x512.Idx) = cosF (ix2 s l : S2048x128.Idx) * scale
      ∧ table (ix2 s ⟨128 + l.val, by omega⟩ : S2048x512.Idx) = sinF (ix2 s l : S2048x128.Idx) * scale
      ∧ table (ix2 s ⟨256 + l.val, by omega⟩ : S2048x512.Idx) = cosF (ix2 s l : S2048x128.Idx)
      ∧ table (ix2 s ⟨384 + l.val, by omega⟩ : S2048x512.Idx) = sinF (ix2 s l : S2048x128.Idx) := by
  unfold table scale
  generalize cosF = C
  generalize sinF = S
  have hl := l.isLt
  refine ⟨?_, ?_, ?_, ?_⟩ <;> pointwise [scaleF]
  · rw [dif_neg (by omega), dif_neg (by omega), dif_pos (by omega)]
    exact congrArg C (congrArg (ix2 s) (Fin.ext (by show 256 + l.val - 128 - 128 = l.val; omega)))
  · rw [dif_neg (by omega), dif_neg (by omega), dif_neg (by omega)]
    exact congrArg S (congrArg (ix2 s) (Fin.ext (by show 384 + l.val - 128 - 128 - 128 = l.val; omega)))

theorem scale_nonneg : 0 ≤ scale ∧ scale ≠ ⊤ := by
  have : scale = ((8557550 * 2 ^ (-26 : ℤ) : ℝ) : EReal) := by
    simp [scale, Ideal.ofBits, Ideal.ieee, -EReal.coe_mul]
  rw [this]
  exact ⟨EReal.coe_nonneg.mpr (by positivity), EReal.coe_ne_top _⟩

/-- A factor that scales both products scales their difference. -/
theorem scaled_sub (a b x y : EReal) : a * (x * scale) + b * (-y * scale) = (a * x - b * y) * scale := by
  rw [sub_eq_add_neg, EReal.right_distrib_of_nonneg_of_ne_top scale_nonneg.1 scale_nonneg.2, mul_assoc, ← mul_neg, mul_assoc]

/-- A factor that scales both products scales their sum. -/
theorem scaled_add (a b x y : EReal) : a * (x * scale) + b * (y * scale) = (a * x + b * y) * scale := by
  rw [EReal.right_distrib_of_nonneg_of_ne_top scale_nonneg.1 scale_nonneg.2, mul_assoc, mul_assoc]

/-- A block's columns of the table. -/
theorem table_block (c : Dev nD) (t : Fin cfg0.N) (row : Fin 512) (j : Fin 512) :
    iblk m c 5 t (ix2 row j : S512x512.Idx) = table (ix2 ⟨512 * (t.val % 4) + row.val, by omega⟩ j : S2048x512.Idx) := by
  rw [← entry_table m c]
  blk_point [iblk, idx t]

end Cert.InprojIdeal.Stage
-- ==== Proof.InprojQkv.lean ====
/-
The heads' rows: the array of rotated queries, rotated keys and values the input projection's call leaves is the
reference's.
-/
module

public import proofs.«01_k».proof.Proof.InprojHeads
public import proofs.«01_k».proof.Proof.InprojTable

@[expose] public section

set_option maxRecDepth 16384

noncomputable section

open Idealize.ShloMosaic Idealize.ShloMosaic.TcCoe Idealize.SL.Sem
open Idealize.ShloMosaic.Pipeline (Dat)

namespace Cert.InprojIdeal.Stage

open Cert.InprojIdeal Cert.InprojIdeal.Gen
open Cert.InprojRefIdeal.Stage (angles rotated rotated_val qkvRows)

variable (m : (ℓ : Loc nD τ sig) → Buf (Elt Ideal) ℓ)

/-! ## One head -/

section OneHead

variable (q : FVec Ideal Cert.InprojRefIdeal.S16x2048x1024 .f32) (p : FVec Ideal S512x1024 .f32) (C S : FVec Ideal S512x128 .f32)
  (b : Fin 16) (s : Fin 2048) (row : Fin 512) (hp : ∀ j : Fin 1024, p (ix2 row j : S512x1024.Idx) = q (ix3 b s j : Cert.InprojRefIdeal.S16x2048x1024.Idx))
  (h : ℕ) (hh : h < 8) (l : Fin 128)

include hp

/-- A head of queries, its factors carrying the scale, is the reference's scaled rotated head. -/
theorem rot_query (hC : C (ix2 row l : S512x128.Idx) = cosF (ix2 s l : S2048x128.Idx) * scale) (hS : S (ix2 row l : S512x128.Idx) = sinF (ix2 s l : S2048x128.Idx) * scale) :
    head p C S h hh (ix2 row l : S512x128.Idx) = rotated q (ix2 ⟨2048 * b.val + s.val, by omega⟩ ⟨128 * h + l.val, by omega⟩ : Cert.InprojRefIdeal.S32768x1024.Idx) * scale := by
  rw [head_val, rotated_val q b s h hh l, hp, hp, hC, hS, cosF_val, sinF_val]
  by_cases hl : l.val < 64
  · simp only [dif_pos hl, show (l.val + 64) % 128 = l.val + 64 by omega]
    exact scaled_sub _ _ _ _
  · simp only [dif_neg hl, show (l.val + 64) % 128 = l.val - 64 by omega]
    exact scaled_add _ _ _ _

/-- A head of keys is the reference's rotated head. -/
theorem rot_key (hC : C (ix2 row l : S512x128.Idx) = cosF (ix2 s l : S2048x128.Idx)) (hS : S (ix2 row l : S512x128.Idx) = sinF (ix2 s l : S2048x128.Idx)) :
    head p C S h hh (ix2 row l : S512x128.Idx) = rotated q (ix2 ⟨2048 * b.val + s.val, by omega⟩ ⟨128 * h + l.val, by omega⟩ : Cert.InprojRefIdeal.S32768x1024.Idx) := by
  rw [head_val, rotated_val q b s h hh l, hp, hp, hC, hS, cosF_val, sinF_val]
  by_cases hl : l.val < 64
  · simp only [dif_pos hl, show (l.val + 64) % 128 = l.val + 64 by omega]
    rw [mul_neg, sub_eq_add_neg]
  · simp only [dif_neg hl, show (l.val + 64) % 128 = l.val - 64 by omega]

end OneHead

/-! ## The reference's rows -/

section Ref

open Cert.InprojRefIdeal Cert.InprojRefIdeal.Gen Cert.InprojRefIdeal.Value

variable (P : FVec Ideal Cert.InprojRefIdeal.S16x2048x5120 .f32)

/-- The queries', keys' and values' columns of the projection. -/
abbrev qCols : FVec Ideal Cert.InprojRefIdeal.S16x2048x1024 .f32 := extractStridedSlice Cert.InprojRefIdeal.S16x2048x1024 ![0, 0, 0] P Cert.InprojRefIdeal.Gen.slices_S16x2048x5120_S16x2048x1024_0_0_0
abbrev kCols : FVec Ideal Cert.InprojRefIdeal.S16x2048x1024 .f32 := extractStridedSlice Cert.InprojRefIdeal.S16x2048x1024 ![0, 0, 1024] P Cert.InprojRefIdeal.Gen.slices_S16x2048x5120_S16x2048x1024_0_0_1024

theorem ref_query (r : Fin 32768) (j : Fin 1024) : qkvRows P (ix2 r ⟨j.val, by omega⟩ : Cert.InprojRefIdeal.S32768x3072.Idx) =
    rotated (qCols P) (ix2 r j : Cert.InprojRefIdeal.S32768x1024.Idx) * scale := by
  unfold qkvRows scale
  generalize rotated (extractStridedSlice _ ![0, 0, 0] P _) = X
  generalize rotated (extractStridedSlice _ ![0, 0, 1024] P _) = Y
  pointwise [Cert.InprojRefIdeal.Value.fn_main_v100]

theorem ref_key (r : Fin 32768) (j : Fin 1024) : qkvRows P (ix2 r ⟨1024 + j.val, by omega⟩ : Cert.InprojRefIdeal.S32768x3072.Idx) =
    rotated (kCols P) (ix2 r j : Cert.InprojRefIdeal.S32768x1024.Idx) := by
  unfold qkvRows
  generalize rotated (extractStridedSlice _ ![0, 0, 0] P _) = X
  generalize rotated (extractStridedSlice _ ![0, 0, 1024] P _) = Y
  pointwise [Cert.InprojRefIdeal.Value.fn_main_v100]

theorem ref_value (b : Fin 16) (s : Fin 2048) (j : Fin 1024) : qkvRows P (ix2 ⟨2048 * b.val + s.val, by omega⟩ ⟨2048 + j.val, by omega⟩ : Cert.InprojRefIdeal.S32768x3072.Idx) =
    P (ix3 b s ⟨2048 + j.val, by omega⟩ : Cert.InprojRefIdeal.S16x2048x5120.Idx) := by
  unfold qkvRows
  generalize rotated (extractStridedSlice _ ![0, 0, 0] P _) = X
  generalize rotated (extractStridedSlice _ ![0, 0, 1024] P _) = Y
  pointwise [Cert.InprojRefIdeal.Value.fn_main_v100]
  rw [dif_neg (by omega), dif_neg (by omega)]
  exact congrArg P (congrArg (ix3 b s) (Fin.ext (by show 2048 + (2048 + j.val - 1024 - 1024) = 2048 + j.val; omega)))

theorem qCols_val (b : Fin 16) (s : Fin 2048) (j : Fin 1024) : qCols P (ix3 b s j : Cert.InprojRefIdeal.S16x2048x1024.Idx) = P (ix3 b s ⟨0 + j.val, by omega⟩ : Cert.InprojRefIdeal.S16x2048x5120.Idx) := by
  pointwise
theorem kCols_val (b : Fin 16) (s : Fin 2048) (j : Fin 1024) : kCols P (ix3 b s j : Cert.InprojRefIdeal.S16x2048x1024.Idx) = P (ix3 b s ⟨1024 + j.val, by omega⟩ : Cert.InprojRefIdeal.S16x2048x5120.Idx) := by
  pointwise

end Ref

/-- The table's columns as a head's factor. -/
theorem factor_val (x : Vec Ideal S512x512 .f32) (off : ℕ) (h : off + 128 ≤ 512) (row : Fin 512) (l : Fin 128) :
    k0_pay33 (F := Ideal) (tab x off h) (ix2 row l : S512x128.Idx) = x (ix2 row ⟨off + l.val, by omega⟩ : S512x512.Idx) := by
  pointwise [k0_pay33, tab]

theorem head_congr (p : FVec Ideal S512x1024 .f32) (C S : FVec Ideal S512x128 .f32) (h h' : ℕ) (hh : h < 8) (hh' : h' < 8) (e : h = h') : head p C S h hh = head p C S h' hh' := by
  subst e; rfl

/-! ## The array -/

/-- What a point leaves in the heads' rows. -/
theorem qkv_block (c : Dev nD) (t : Fin cfg0.N) : (outsAt0 m c t.val t.isLt).1 = qkvOf (uAt m c t) (iblk m c 4 t) (iblk m c 5 t) := by
  by_cases h : t.val % 4 = 0
  · rw [outsAt0_A m c t h]
    dsimp only
    exact out10A_eq c _ _ _ _ _ _ _ _ _ _ _ _ _ _ _ _ _ _ _ _ _ _ _ _ _ _ _ _ _ _ _ _ _ _ _ _ _ _ _ _ _ _ _ _ _ _
  · rw [outsAt0_B m c t h]
    dsimp only
    exact out10B_eq c _ _ _ _ _ _ _ _ _ _ _ _ _ _ _ _ _ _ _ _ _ _ _ _ _ _ _ _ _ _ _ _ _ _ _ _ _ _ _ _ _ _ _ _ _ _ _

section Block

variable (c : Dev nD) (t : Fin cfg0.N) (row : Fin 512)

/-- The factors of the queries. -/
theorem query_factors (l : Fin 128) :
    k0_pay33 (F := Ideal) (tab (iblk m c 5 t) 0 (by omega)) (ix2 row l : S512x128.Idx) = cosF (ix2 ⟨512 * (t.val % 4) + row.val, by omega⟩ l : S2048x128.Idx) * scale
      ∧ k0_pay33 (F := Ideal) (tab (iblk m c 5 t) 128 (by omega)) (ix2 row l : S512x128.Idx) = sinF (ix2 ⟨512 * (t.val % 4) + row.val, by omega⟩ l : S2048x128.Idx) * scale :=
  ⟨(factor_val _ 0 (by omega) row l).trans ((table_block m c t row _).trans (table_val _ l).1),
    (factor_val _ 128 (by omega) row l).trans ((table_block m c t row _).trans (table_val _ l).2.1)⟩

/-- The factors of the keys. -/
theorem key_factors (l : Fin 128) :
    k0_pay33 (F := Ideal) (tab (iblk m c 5 t) 256 (by omega)) (ix2 row l : S512x128.Idx) = cosF (ix2 ⟨512 * (t.val % 4) + row.val, by omega⟩ l : S2048x128.Idx)
      ∧ k0_pay33 (F := Ideal) (tab (iblk m c 5 t) 384 (by omega)) (ix2 row l : S512x128.Idx) = sinF (ix2 ⟨512 * (t.val % 4) + row.val, by omega⟩ l : S2048x128.Idx) :=
  ⟨(factor_val _ 256 (by omega) row l).trans ((table_block m c t row _).trans (table_val _ l).2.2.1),
    (factor_val _ 384 (by omega) row l).trans ((table_block m c t row _).trans (table_val _ l).2.2.2)⟩

theorem query_block (h : ℕ) (hh : h < 8) (l : Fin 128) :
    qkvOf (uAt m c t) (iblk m c 4 t) (iblk m c 5 t) (ix2 row ⟨128 * h + l.val, by omega⟩ : S512x3072.Idx) =
      qkvRows (projM m c) (ix2 ⟨2048 * (t.val / 4) + (512 * (t.val % 4) + row.val), by have := pts t; omega⟩ ⟨128 * h + l.val, by omega⟩ : S32768x3072.Idx) := by
  have ht := pts t
  rw [qkv_head _ _ _ row h (by omega) l, pick_zero _ _ _ (show h / 8 = 0 by omega), pick_zero _ _ _ (show h / 8 = 0 by omega), pick_zero _ _ _ (show h / 8 = 0 by omega),
    head_congr _ _ _ (h % 8) h _ hh (by omega)]
  refine (rot_query (qCols (projM m c)) _ _ _ ⟨t.val / 4, by omega⟩ ⟨512 * (t.val % 4) + row.val, by omega⟩ row (fun j => ?_) h hh l (query_factors m c t row l).1 (query_factors m c t row l).2).trans
    (ref_query (projM m c) _ ⟨128 * h + l.val, by omega⟩).symm
  rw [qCols_val]
  exact proj_val m c t 0 (by omega) row j

theorem key_block (h : ℕ) (hh : h < 8) (l : Fin 128) :
    qkvOf (uAt m c t) (iblk m c 4 t) (iblk m c 5 t) (ix2 row ⟨128 * (8 + h) + l.val, by omega⟩ : S512x3072.Idx) =
      qkvRows (projM m c) (ix2 ⟨2048 * (t.val / 4) + (512 * (t.val % 4) + row.val), by have := pts t; omega⟩ ⟨1024 + (128 * h + l.val), by omega⟩ : S32768x3072.Idx) := by
  have ht := pts t
  rw [qkv_head _ _ _ row (8 + h) (by omega) l, pick_one _ _ _ (show (8 + h) / 8 = 1 by omega), pick_one _ _ _ (show (8 + h) / 8 = 1 by omega), pick_one _ _ _ (show (8 + h) / 8 = 1 by omega),
    head_congr _ _ _ ((8 + h) % 8) h _ hh (by omega)]
  refine (rot_key (kCols (projM m c)) _ _ _ ⟨t.val / 4, by omega⟩ ⟨512 * (t.val % 4) + row.val, by omega⟩ row (fun j => ?_) h hh l (key_factors m c t row l).1 (key_factors m c t row l).2).trans
    (ref_key (projM m c) _ ⟨128 * h + l.val, by omega⟩).symm
  rw [kCols_val]
  exact proj_val m c t 1024 (by omega) row j

theorem value_block (j : Fin 1024) :
    qkvOf (uAt m c t) (iblk m c 4 t) (iblk m c 5 t) (ix2 row ⟨2048 + j.val, by omega⟩ : S512x3072.Idx) =
      qkvRows (projM m c) (ix2 ⟨2048 * (t.val / 4) + (512 * (t.val % 4) + row.val), by have := pts t; omega⟩ ⟨2048 + j.val, by omega⟩ : S32768x3072.Idx) := by
  have ht := pts t
  rw [qkv_value]
  exact (proj_val m c t 2048 (by omega) row j).trans (ref_value (projM m c) ⟨t.val / 4, by omega⟩ ⟨512 * (t.val % 4) + row.val, by omega⟩ j).symm

/-- Every element of the block. -/
theorem qkv_val (n : Fin 3072) : qkvOf (uAt m c t) (iblk m c 4 t) (iblk m c 5 t) (ix2 row n : S512x3072.Idx) =
    qkvRows (projM m c) (ix2 ⟨512 * t.val + row.val, by have := pts t; omega⟩ n : S32768x3072.Idx) := by
  have ht := pts t
  rw [show (⟨512 * t.val + row.val, by omega⟩ : Fin 32768) = ⟨2048 * (t.val / 4) + (512 * (t.val % 4) + row.val), by omega⟩ from Fin.ext (by show 512 * t.val + row.val = 2048 * (t.val / 4) + (512 * (t.val % 4) + row.val); omega)]
  by_cases h1 : n.val < 1024
  · obtain ⟨h, l, hh, hn⟩ : ∃ (h : ℕ) (l : Fin 128), h < 8 ∧ n.val = 128 * h + l.val := ⟨n.val / 128, ⟨n.val % 128, by omega⟩, by omega, by show n.val = 128 * (n.val / 128) + n.val % 128; omega⟩
    have := query_block m c t row h hh l
    simp only [← hn] at this
    exact this
  · by_cases h2 : n.val < 2048
    · obtain ⟨h, l, hh, hn⟩ : ∃ (h : ℕ) (l : Fin 128), h < 8 ∧ n.val = 1024 + (128 * h + l.val) :=
        ⟨(n.val - 1024) / 128, ⟨(n.val - 1024) % 128, by omega⟩, by omega, by show n.val = 1024 + (128 * ((n.val - 1024) / 128) + (n.val - 1024) % 128); omega⟩
      have := key_block m c t row h hh l
      simp only [← hn, show 128 * (8 + h) + l.val = n.val by omega] at this
      exact this
    · obtain ⟨j, hn⟩ : ∃ j : Fin 1024, n.val = 2048 + j.val := ⟨⟨n.val - 2048, by omega⟩, by show n.val = 2048 + (n.val - 2048); omega⟩
      have := value_block m c t row j
      simp only [← hn] at this
      exact this

end Block

/-- The heads' rows. -/
theorem qkv_eq (c : Dev nD) : (dats m 0 c).arrAt 10 cfg0.N = qkvRows (projM m c) := by
  refine (dats m 0 c).arrAt_eq_of_covers 10 _ (by decide +kernel) fun t _ y => ?_
  blk_simp
  rw [after0_10, qkv_block]
  obtain ⟨row, n, rfl⟩ : ∃ row n, y = (ix2 row n : S512x3072.Idx) := ⟨y 0, y 1, eq_ix2 y⟩
  refine (qkv_val m c t row n).trans (congrArg (qkvRows (projM m c)) ?_)
  blk_point [idx t]

end Cert.InprojIdeal.Stage
-- ==== Proof.InprojConv.lean ====
/-
The convolution module's result: the array the input projection's call leaves is the reference's.
-/
module

public import proofs.«01_k».proof.Proof.InprojRows

@[expose] public section

set_option maxRecDepth 16384

noncomputable section

open Idealize.ShloMosaic Idealize.ShloMosaic.TcCoe Idealize.SL.Sem
open Idealize.ShloMosaic.Pipeline (Dat)

namespace Cert.InprojIdeal.Stage

open Cert.InprojIdeal Cert.InprojIdeal.Gen
open Cert.InprojRefIdeal.Stage (projV gated convd mean centred normed convRows)

variable (m : (ℓ : Loc nD τ sig) → Buf (Elt Ideal) ℓ)

/-- The rows a point carries on are the last of its gated channels. -/
theorem carried (c : Dev nD) (t : Fin cfg0.N) (cs : Fin 8) (r : Fin 32) (l : Fin 128) :
    (outsAt0 m c t.val t.isLt).2.2 (ix3 cs r l : S8x32x128.Idx) = gluAt m c t (ix2 ⟨480 + r.val, by omega⟩ ⟨128 * cs.val + l.val, by omega⟩ : S512x1024.Idx) := by
  by_cases h : t.val % 4 = 0
  · rw [outsAt0_A m c t h]
    dsimp only
    exact soutA_val c _ _ _ _ _ _ _ _ _ _ _ _ _ _ _ _ _ _ _ _ _ _ _ _ _ _ _ _ _ _ _ _ _ _ _ _ _ _ _ _ _ _ _ _ _ _ cs r l
  · rw [outsAt0_B m c t h]
    dsimp only
    exact soutB_val c _ _ _ _ _ _ _ _ _ _ _ _ _ _ _ _ _ _ _ _ _ _ _ _ _ _ _ _ _ _ _ _ _ _ _ _ _ _ _ _ _ _ _ _ _ _ _ cs r l

/-- A point's convolution rows come from the reference's sums of its block. -/
theorem conv_block (c : Dev nD) (t : Fin cfg0.N) : ∃ Z : FVec Ideal S512x1024 .f32,
    (outsAt0 m c t.val t.isLt).2.1 = k0_pay1 Z (k0_pay766 Z) (iblk m c 8 t) (iblk m c 9 t) ∧ ∀ (row : Fin 512) (ch : Fin 1024), Z (ix2 row ch : S512x1024.Idx) =
      convd (projM m c) (m ((c.tc : Thread nD τ).loc main_arg5)) (m ((c.tc : Thread nD τ).loc main_arg6))
        (ix3 ⟨t.val / 4, by have := pts t; omega⟩ ⟨512 * (t.val % 4) + row.val, by omega⟩ ch : Cert.InprojRefIdeal.S16x2048x1024.Idx) := by
  by_cases h : t.val % 4 = 0
  · rw [outsAt0_A m c t h]
    dsimp only
    refine ⟨_, out11A_eq c _ _ _ _ _ _ _ _ _ _ _ _ _ _ _ _ _ _ _ _ _ _ _ _ _ _ _ _ _ _ _ _ _ _ _ _ _ _ _ _ _ _ _ _ _ _, ?_⟩
    exact convd_block m c t _ (fun _ cs r l => haloFirst_val _ _ cs r l) (fun h' => absurd h h')
  · rw [outsAt0_B m c t h]
    dsimp only
    refine ⟨_, out11B_eq c _ _ _ _ _ _ _ _ _ _ _ _ _ _ _ _ _ _ _ _ _ _ _ _ _ _ _ _ _ _ _ _ _ _ _ _ _ _ _ _ _ _ _ _ _ _ _, ?_⟩
    refine convd_block m c t _ (fun h' => absurd h' h) fun _ cs r l => ?_
    rw [haloNext_val]
    exact carried m c ⟨t.val - 1, _⟩ cs r l

/-- A block's normalised and gated rows are the reference's. -/
theorem norm_block (n : ℕ) (hn : n < 64) (Z : FVec Ideal S512x1024 .f32) (G B : Vec Ideal S1x1024 .f32) (z : FVec Ideal Cert.InprojRefIdeal.S16x2048x1024 .f32)
    (g b : FVec Ideal S1024 .f32) (hg : ∀ j : Fin 1024, G (ix2 0 j : S1x1024.Idx) = g (ix1 j : S1024.Idx)) (hb : ∀ j : Fin 1024, B (ix2 0 j : S1x1024.Idx) = b (ix1 j : S1024.Idx))
    (hz : ∀ (row : Fin 512) (ch : Fin 1024), Z (ix2 row ch : S512x1024.Idx) = z (ix3 ⟨n / 4, by omega⟩ ⟨512 * (n % 4) + row.val, by omega⟩ ch : Cert.InprojRefIdeal.S16x2048x1024.Idx))
    (row : Fin 512) (ch : Fin 1024) :
    k0_pay1 Z (k0_pay766 Z) G B (ix2 row ch : S512x1024.Idx) = convRows z g b (ix2 ⟨512 * n + row.val, by omega⟩ ch : S32768x1024.Idx) := by
  have e0 : ∀ h, (⟨(512 * n + row.val) / 2048, h⟩ : Fin 16) = ⟨n / 4, by omega⟩ := fun _ => Fin.ext (by show (512 * n + row.val) / 2048 = n / 4; omega)
  have e1 : ∀ h, (⟨(512 * n + row.val) % 2048, h⟩ : Fin 2048) = ⟨512 * (n % 4) + row.val, by omega⟩ :=
    fun _ => Fin.ext (by show (512 * n + row.val) % 2048 = 512 * (n % 4) + row.val; omega)
  pointwise [k0_pay1, k0_pay766, convRows, normed, centred, mean, Ideal.logistic]
  simp only [e0, e1, hz, hg, hb]

/-- The convolution module's rows. -/
theorem conv_eq (c : Dev nD) : (dats m 0 c).arrAt 11 cfg0.N =
    convRows (convd (projM m c) (m ((c.tc : Thread nD τ).loc main_arg5)) (m ((c.tc : Thread nD τ).loc main_arg6)))
      (m ((c.tc : Thread nD τ).loc main_arg7)) (m ((c.tc : Thread nD τ).loc main_arg8)) := by
  refine (dats m 0 c).arrAt_eq_of_covers 11 _ (by decide +kernel) fun t _ y => ?_
  obtain ⟨Z, hZ, hz⟩ := conv_block m c t
  have ht := pts t
  have hg := normGain_val m c t
  have hb := normBias_val m c t
  generalize convd (projM m c) (m ((c.tc : Thread nD τ).loc main_arg5)) (m ((c.tc : Thread nD τ).loc main_arg6)) = z at *
  blk_simp
  rw [after0_11, hZ]
  obtain ⟨row, ch, rfl⟩ : ∃ row ch, y = (ix2 row ch : S512x1024.Idx) := ⟨y 0, y 1, eq_ix2 y⟩
  refine (norm_block t.val ht Z _ _ z _ _ hg hb hz row ch).trans (congrArg (convRows z _ _) ?_)
  blk_point [idx t]

end Cert.InprojIdeal.Stage
-- ==== Proof.InprojClaim.lean ====
/-
The input projection: the call computes the reference's heads' rows and convolution rows.
-/
module

public import proofs.«01_k».proof.Defs
public import proofs.«01_k».proof.Proof.InprojQkv
public import proofs.«01_k».proof.Proof.InprojConv

@[expose] public section

set_option maxRecDepth 16384

noncomputable section

open Idealize.ShloMosaic Idealize.ShloMosaic.TcCoe Idealize.SL.Sem
open Idealize.ShloMosaic.Pipeline (Dat)

namespace Cert.InprojRefIdeal.Stage

open Cert.InprojRefIdeal Cert.InprojRefIdeal.Gen Cert.InprojRefIdeal.Value

/-- The reference's run leaves its stages composed. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v355) = qkvRows (proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v357) = convRows (convd (proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6))) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ⟨(h c).1.trans ?_, (h c).2.1.trans ?_, (h c).2.2⟩) (Cert.InprojRefIdeal.Value.run (F := Ideal) m ρ)
  · rfl
  · show _ = convRows (convd (projV (StableHlo.launchContents m c)) (StableHlo.launchContents m c (Proc.devRef .tc main_arg5)) (StableHlo.launchContents m c (Proc.devRef .tc main_arg6)))
          (StableHlo.launchContents m c (Proc.devRef .tc main_arg7)) (StableHlo.launchContents m c (Proc.devRef .tc main_arg8))
    rw [← v329_eq]
    rfl

end Cert.InprojRefIdeal.Stage

namespace Cert.InprojIdeal.Stage

set_option maxHeartbeats 2000000 in
/-- The call computes the reference's heads' rows and convolution rows, element by element over the extended reals. -/
theorem algebraic : Cert.algebraic_InprojIdeal_InprojRefIdeal (hInprojIdeal := Cert.InprojIdeal.Gen.facts) (hInprojRefIdeal := Cert.InprojRefIdeal.Gen.facts) := by
  pair_intro
  · run_from Cert.InprojIdeal.Gen.run_main m g
  · refine (θ_run _ _ _).mono (fun r hr c => ?_) (Cert.InprojRefIdeal.Stage.run m' g')
    obtain ⟨hq, hc, h0, h1, h2, h3, h4, h5, h6, h7, h8⟩ := hr c
    obtain ⟨a0, a1, a2, a3, a4, a5, a6, a7, a8⟩ := hagree c
    rw [a0, a1, a2, a3, a4] at hq
    rw [a0, a1, a2, a3, a4, a5, a6, a7, a8] at hc
    exact ⟨hq.trans (qkv_eq m c).symm, hc.trans (conv_eq m c).symm, h0, h1, h2, h3, h4, h5, h6, h7, h8⟩

end Cert.InprojIdeal.Stage
-- ==== Proof.ModClaim.lean ====
/-
The modulation rows and the input projection's weights in half precision: one point per slice of the weights.
-/
module

public import proofs.«01_k».proof.Defs
public import proofs.«01_k».proof.Proof.Gen.ModIdeal
public import proofs.«01_k».proof.Proof.Gen.ModIdeal.Frame
public import proofs.«01_k».proof.Proof.Gen.ModRefIdeal
public import proofs.«01_k».proof.Proof.Gen.ModRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ModRefIdeal.Rows

open Cert.ModRefIdeal Cert.ModRefIdeal.Gen

/-- The modulation rows: the gated conditioning vectors times the weights, plus the bias. -/
def rows (x : FVec Ideal S16x2048 .f32) (w : FVec Ideal S2048x12288 .f32) (b : FVec Ideal S12288 .f32) : FVec Ideal S16x12288 .f32 :=
  addf (Host.dotGeneral dot_S16x2048_S2048x12288_S16x12288_1_0_0_1_n_n none
      (mulf x (Host.divf (broadcastInDim S16x2048 ![] bcast_S_S16x2048 (constant S_ .f32 0x3F800000#32))
        (addf (broadcastInDim S16x2048 ![] bcast_S_S16x2048 (constant S_ .f32 0x3F800000#32)) (Host.exp (Host.negf x))))) w)
    (broadcastInDim S16x12288 ![0, 1] bcast_S1x12288_S16x12288_0_1 (broadcastInDim S1x12288 ![1] bcast_S12288_S1x12288_1 b))

/-- The input projection's weights in half precision. -/
def weights (w : FVec Ideal S2048x5120 .f32) : FVec Ideal S2048x5120 .bf16 := truncf .bf16 w bitsLt_bf16_f32

end Cert.ModRefIdeal.Rows

namespace Cert.ModIdeal.Rows

open Cert.ModIdeal Cert.ModIdeal.Gen
open Cert.ModRefIdeal.Rows (rows weights)

variable (m : (ℓ : Loc nD τ sig) → Buf (Elt Ideal) ℓ)

/-- The windows' block indices at a point of the grid. -/
theorem idx : ∀ t : Fin cfg0.N, win0_0.index t = ![0, 0] ∧ win0_1.index t = ![0, t.val] ∧ win0_2.index t = ![0, t.val]
    ∧ win0_3.index t = ![t.val, 0] ∧ win0_4.index t = ![0, t.val] ∧ win0_5.index t = ![t.val, 0] :=
  (by decide +kernel : ∀ t : Fin grid0.N, _)

/-- The rows the call leaves are the reference's. -/
theorem rows_eq (c : Dev nD) : (dats m 0 c).arrAt 4 cfg0.N = rows (m ((c.tc : Thread nD τ).loc main_arg0))
    (m ((c.tc : Thread nD τ).loc main_arg1)) (m ((c.tc : Thread nD τ).loc main_arg2)) := by
  refine (dats m 0 c).arrAt_eq_of_covers 4 _ (by decide +kernel) fun t _ y => ?_
  blk_simp
  rw [after0_4]; frame_out
  pointwise [k0_pay1, rows, Ideal.logistic]
  blk_point [iblk, idx t]

/-- The weights the call leaves are the given ones. -/
theorem weights_eq (c : Dev nD) : (dats m 0 c).arrAt 5 cfg0.N =
    weights (m ((c.tc : Thread nD τ).loc main_arg3)) := by
  refine (dats m 0 c).arrAt_eq_of_covers 5 _ (by decide +kernel) fun t _ y => ?_
  blk_simp
  rw [after0_5]; frame_out
  pointwise [k0_pay2, weights]
  blk_point [iblk, idx t]

/-- The call computes the reference's rows and weights, element by element over the extended reals. -/
theorem algebraic : Cert.algebraic_ModIdeal_ModRefIdeal (hModIdeal := Cert.ModIdeal.Gen.facts) (hModRefIdeal := Cert.ModRefIdeal.Gen.facts) := by
  pair_intro
  · run_from Cert.ModIdeal.Gen.run_main m g
  · run_from Cert.ModRefIdeal.Value.run m' g'
    · exact (rows_eq m c).symm
    · exact (weights_eq m c).symm

end Cert.ModIdeal.Rows
-- ==== Proof.CastClaim.lean ====
/-
The weight casts that ride on the attention call: each point of the grid casts its slab of rows of the four weights.
-/
module

public import proofs.«01_k».proof.Defs
public import proofs.«01_k».proof.Proof.Gen.KernelIdeal
public import proofs.«01_k».proof.Proof.Gen.KernelIdeal.Frame
public import proofs.«01_k».proof.Proof.Gen.KernelIdeal.Value
public import proofs.«01_k».proof.Proof.Gen.Post_cast_weights
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Casts

open Cert.KernelIdeal Cert.KernelIdeal.Gen

variable (m : (ℓ : Loc nD τ sig) → Buf (Elt Ideal) ℓ)

/-- Each point takes and leaves the slab of rows with its own number. -/
theorem idx : ∀ t : Fin cfg0.N, win0_3.index t = ![t.val, 0] ∧ win0_4.index t = ![t.val, 0] ∧ win0_5.index t = ![t.val, 0]
    ∧ win0_6.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- A weight cast to the shorter format. -/
def cast {s : Shape} (w : FVec Ideal s .f32) : FVec Ideal s .bf16 := truncf .bf16 w bitsLt_bf16_f32

/-- A weight equals its cast's own reading, at every index. -/
theorem cast_same {s : Shape} (w : FVec Ideal s .f32) : cmpf .oeq (cast w) (truncf .bf16 w bitsLt_bf16_f32) = fun _ => 1#1 := by
  funext i
  pointwise [cast]
  simp [Ideal.cmp]

/-- The output projection's weight the call leaves is the given one, cast. -/
theorem out_eq (c : Dev nD) : (dats m 0 c).arrAt 8 cfg0.N = cast (s := S2048x2048) (m ((c.tc : Thread nD τ).loc main_arg1)) := by
  refine (dats m 0 c).arrAt_eq_of_covers 8 _ (by decide +kernel) fun t _ y => ?_
  blk_simp
  rw [after0_8]; frame_out
  pointwise [k0_pay3, cast]
  blk_point [iblk, idx t]

/-- The gate's weight the call leaves is the given one, cast. -/
theorem gate_eq (c : Dev nD) : (dats m 0 c).arrAt 9 cfg0.N = cast (s := S2048x5632) (m ((c.tc : Thread nD τ).loc main_arg2)) := by
  refine (dats m 0 c).arrAt_eq_of_covers 9 _ (by decide +kernel) fun t _ y => ?_
  blk_simp
  rw [after0_9]; frame_out
  pointwise [k0_pay4, cast]
  blk_point [iblk, idx t]

/-- The up projection's weight the call leaves is the given one, cast. -/
theorem up_eq (c : Dev nD) : (dats m 0 c).arrAt 10 cfg0.N = cast (s := S2048x5632) (m ((c.tc : Thread nD τ).loc main_arg3)) := by
  refine (dats m 0 c).arrAt_eq_of_covers 10 _ (by decide +kernel) fun t _ y => ?_
  blk_simp
  rw [after0_10]; frame_out
  pointwise [k0_pay5, cast]
  blk_point [iblk, idx t]

/-- The down projection's weight the call leaves is the given one, cast. -/
theorem down_eq (c : Dev nD) : (dats m 0 c).arrAt 11 cfg0.N = cast (s := S5632x2048) (m ((c.tc : Thread nD τ).loc main_arg4)) := by
  refine (dats m 0 c).arrAt_eq_of_covers 11 _ (by decide +kernel) fun t _ y => ?_
  blk_simp
  rw [after0_11]; frame_out
  pointwise [k0_pay6, cast]
  blk_point [iblk, idx t]

/-- What the predicate says of an output named by its value is so. -/
theorem met {s : Shape} {a : FVec Ideal s .bf16} {w : FVec Ideal s .f32} (h : a = cast w) :
    cmpf .oeq a (truncf .bf16 w bitsLt_bf16_f32) = fun _ => 1#1 := h ▸ cast_same w

set_option maxHeartbeats 2000000 in
/-- Every weight the call leaves is the given one, cast. -/
theorem holds : Cert.holds_KernelIdeal_cast_weights (hKernelIdeal := Cert.KernelIdeal.Gen.facts)
    (hPost_cast_weights := Cert.Post_cast_weights.Gen.facts) := by
  intro m g _
  refine (θ_run _ _ _).mono (fun r hr c => ?_) (Cert.KernelIdeal.Value.run_blocks (F := Ideal) m g)
  obtain ⟨-, h8, h9, h10, h11, k0, k1, k2, k3, k4⟩ := hr c
  exact ⟨k0, k1, k2, k3, k4, met (h8.trans (out_eq m c)), met (h9.trans (gate_eq m c)), met (h10.trans (up_eq m c)),
    met (h11.trans (down_eq m c))⟩

end Cert.KernelIdeal.Casts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal.Run
public import proofs.«01_k».proof.Proof.Gen.TailRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.InprojRefIdeal
public import proofs.«01_k».proof.Proof.Gen.InprojRefIdeal.Run
public import proofs.«01_k».proof.Proof.Gen.ModRefIdeal
public import proofs.«01_k».proof.Proof.Gen.ModRefIdeal.Run
public import proofs.«01_k».proof.Proof.Gen.Post_cast_weights
public import proofs.«01_k».proof.Proof.TailRun
public import proofs.«01_k».proof.Proof.InprojClaim
public import proofs.«01_k».proof.Proof.ModClaim
public import proofs.«01_k».proof.Proof.CastClaim
public import Idealize.ShloMosaic.Adequacy
public import Idealize.ShloMosaic.Init

@[expose] public section

noncomputable section

namespace Cert.Proof

open Idealize.ShloMosaic Idealize.SL.Sem

/-- The reference of the tail ends with its arguments as launched and every semaphore counter at zero. -/
theorem tailRef_ends : Cert.quiescent_TailRefIdeal (hTailRefIdeal := Cert.TailRefIdeal.Gen.facts) := fun m ρ _ =>
  (θ_run Cert.TailRefIdeal.defs _ _).mono (fun r h => ⟨fun c => (h c).2, sem_eq_zero_of_no_sems (by decide) r.2⟩)
    (Cert.TailRefIdeal.Value.run (F := Ideal) m ρ)

/-- The same of the in-projection's reference, by the run the value claim reads (Proof/InprojClaim.lean). -/
theorem inprojRef_ends : Cert.quiescent_InprojRefIdeal (hInprojRefIdeal := Cert.InprojRefIdeal.Gen.facts) := fun m ρ _ =>
  (θ_run Cert.InprojRefIdeal.defs _ _).mono
    (fun r h => ⟨fun c => (h c).2.2, sem_eq_zero_of_no_sems (by decide) r.2⟩) (Cert.InprojRefIdeal.Stage.run m ρ)

/-- The same of the modulation's reference. -/
theorem modRef_ends : Cert.quiescent_ModRefIdeal (hModRefIdeal := Cert.ModRefIdeal.Gen.facts) := fun m ρ _ =>
  (θ_run Cert.ModRefIdeal.defs _ _).mono (fun r h => ⟨fun c => (h c).2.2, sem_eq_zero_of_no_sems (by decide) r.2⟩)
    (Cert.ModRefIdeal.Value.run (F := Ideal) m ρ)

theorem claim : Cert.Claim :=
  ⟨Cert.Kernel.Gen.facts, Cert.KernelIdeal.Gen.facts, Cert.Tail.Gen.facts, Cert.TailIdeal.Gen.facts, Cert.TailRefIdeal.Gen.facts,
    Cert.Inproj.Gen.facts, Cert.InprojIdeal.Gen.facts, Cert.InprojRefIdeal.Gen.facts, Cert.Mod.Gen.facts,
    Cert.ModIdeal.Gen.facts, Cert.ModRefIdeal.Gen.facts, Cert.Post_cast_weights.Gen.facts,
    fun m ρ _ => Cert.Kernel.Gen.frame m ρ, fun m ρ _ => Cert.KernelIdeal.Gen.frame m ρ,
    fun m ρ _ => Cert.Tail.Gen.frame m ρ, fun m ρ _ => Cert.TailIdeal.Gen.frame m ρ, tailRef_ends,
    fun m ρ _ => Cert.Inproj.Gen.frame m ρ, fun m ρ _ => Cert.InprojIdeal.Gen.frame m ρ, inprojRef_ends,
    fun m ρ _ => Cert.Mod.Gen.frame m ρ, fun m ρ _ => Cert.ModIdeal.Gen.frame m ρ, modRef_ends,
    IdealRules.named_const.statement Cert.KernelIdeal.κ "mask" .f32 0xF149F2CA#32 ⊥ rfl,
    Cert.KernelIdeal.Casts.holds,
    trivial, Cert.TailIdeal.Stage.algebraic, trivial, Cert.InprojIdeal.Stage.algebraic, trivial,
    Cert.ModIdeal.Rows.algebraic⟩

end Cert.Proof

end
